-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x3584 : Shape := ⟨3, ![3, 4096, 3584]⟩
abbrev S3584x18944 : Shape := ⟨2, ![3584, 18944]⟩
abbrev S18944 : Shape := ⟨1, ![18944]⟩
abbrev S12288x3584 : Shape := ⟨2, ![12288, 3584]⟩
abbrev S1x18944 : Shape := ⟨2, ![1, 18944]⟩
abbrev S12288x1 : Shape := ⟨2, ![12288, 1]⟩
abbrev S12288x9472 : Shape := ⟨2, ![12288, 9472]⟩
abbrev S512x3584 : Shape := ⟨2, ![512, 3584]⟩
abbrev S3584x256 : Shape := ⟨2, ![3584, 256]⟩
abbrev S1x256 : Shape := ⟨2, ![1, 256]⟩
abbrev S512x1 : Shape := ⟨2, ![512, 1]⟩
abbrev S512x9472 : Shape := ⟨2, ![512, 9472]⟩
abbrev S512 : Shape := ⟨1, ![512]⟩
abbrev S512x256 : Shape := ⟨2, ![512, 256]⟩

abbrev nBuf : Space → Nat
  | .hbm => 10
  | .vmem => 20
  | .smem => 0
  | _ => 0

abbrev bufTy : (tb : Table) → Fin (tcTables nBuf tb) → BufTy
  | .hbm, ⟨0, _⟩ => ⟨S3x4096x3584, .bf16⟩
  | .hbm, ⟨1, _⟩ => ⟨S3584x18944, .fp8e4m3⟩
  | .hbm, ⟨2, _⟩ => ⟨S18944, .f32⟩
  | .hbm, ⟨3, _⟩ => ⟨S12288x3584, .bf16⟩
  | .hbm, ⟨4, _⟩ => ⟨S1x18944, .f32⟩
  | .hbm, ⟨5, _⟩ => ⟨S1x18944, .f32⟩
  | .hbm, ⟨6, _⟩ => ⟨S12288x1, .f32⟩
  | .hbm, ⟨7, _⟩ => ⟨S12288x9472, .fp8e4m3⟩
  | .hbm, ⟨8, _⟩ => ⟨S12288x3584, .fp8e4m3⟩
  | .hbm, ⟨9, _⟩ => ⟨S12288x1, .f32⟩
  | .local _ .vmem, ⟨0, _⟩ => ⟨S512x3584, .bf16⟩
  | .local _ .vmem, ⟨1, _⟩ => ⟨S512x3584, .bf16⟩
  | .local _ .vmem, ⟨2, _⟩ => ⟨S3584x256, .fp8e4m3⟩
  | .local _ .vmem, ⟨3, _⟩ => ⟨S3584x256, .fp8e4m3⟩
  | .local _ .vmem, ⟨4, _⟩ => ⟨S3584x256, .fp8e4m3⟩
  | .local _ .vmem, ⟨5, _⟩ => ⟨S3584x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x1, .f32⟩
  | .local _ .vmem, ⟨11, _⟩ => ⟨S512x1, .f32⟩
  | .local _ .vmem, ⟨12, _⟩ => ⟨S512x9472, .fp8e4m3⟩
  | .local _ .vmem, ⟨13, _⟩ => ⟨S512x9472, .fp8e4m3⟩
  | .local _ .vmem, ⟨14, _⟩ => ⟨S512x3584, .fp8e4m3⟩
  | .local _ .vmem, ⟨15, _⟩ => ⟨S512x3584, .fp8e4m3⟩
  | .local _ .vmem, ⟨16, _⟩ => ⟨S512x1, .f32⟩
  | .local _ .vmem, ⟨17, _⟩ => ⟨S512x1, .f32⟩
  | .local _ .vmem, ⟨18, _⟩ => ⟨S512x9472, .f32⟩
  | .local _ .vmem, ⟨19, _⟩ => ⟨S512x1, .f32⟩
  | _, _ => ⟨S3x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![24, 37], ![false, false]⟩

def k0_mult1 (i : grid0.Coords) : BitVec 32 :=
  let arg1 : BitVec 32 := BitVec.ofNat 32 (i 1).val
  let c256_i32 : BitVec 32 := 256#32
  let v26 : BitVec 32 := Scalar.muli arg1 c256_i32
  v26
def k0_off1 (i : grid0.Coords) : Fin 2 → Nat :=
  let c0_13 : Index := 0#32
  let arg1 : BitVec 32 := BitVec.ofNat 32 (i 1).val
  let c256_i32 : BitVec 32 := 256#32
  let v26 : BitVec 32 := Scalar.muli arg1 c256_i32
  let v27 : BitVec 32 := v26
  let v28 : Index := Scalar.indexCast v27
  ![0, v28.toNat]
def k0_cond2 (i : grid0.Coords) : BitVec 1 :=
  let arg1 : BitVec 32 := BitVec.ofNat 32 (i 1).val
  let c36_i32 : BitVec 32 := 36#32
  let v40 : BitVec 1 := Scalar.cmpi .eq arg1 c36_i32
  let v41 : BitVec 32 := Scalar.extui v40
  let c0_i32_19 : BitVec 32 := 0#32
  let v42 : BitVec 1 := Scalar.cmpi .ne v41 c0_i32_19
  v42

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x9472 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S3x4096x3584 : Shape := ⟨3, ![3, 4096, 3584]⟩
abbrev S3584x18944 : Shape := ⟨2, ![3584, 18944]⟩
abbrev S18944 : Shape := ⟨1, ![18944]⟩
abbrev S12288x3584 : Shape := ⟨2, ![12288, 3584]⟩
abbrev S1x18944 : Shape := ⟨2, ![1, 18944]⟩
abbrev S12288x1 : Shape := ⟨2, ![12288, 1]⟩
abbrev S12288x9472 : Shape := ⟨2, ![12288, 9472]⟩
abbrev S12288 : Shape := ⟨1, ![12288]⟩
abbrev S12288x18944 : Shape := ⟨2, ![12288, 18944]⟩

abbrev nBuf : Space → Nat
  | .hbm => 9
  | .vmem => 7
  | .smem => 0
  | _ => 0

abbrev bufTy : (tb : Table) → Fin (tcTables nBuf tb) → BufTy
  | .hbm, ⟨0, _⟩ => ⟨S3x4096x3584, .bf16⟩
  | .hbm, ⟨1, _⟩ => ⟨S3584x18944, .fp8e4m3⟩
  | .hbm, ⟨2, _⟩ => ⟨S18944, .f32⟩
  | .hbm, ⟨3, _⟩ => ⟨S12288x3584, .bf16⟩
  | .hbm, ⟨4, _⟩ => ⟨S1x18944, .f32⟩
  | .hbm, ⟨5, _⟩ => ⟨S12288x1, .f32⟩
  | .hbm, ⟨6, _⟩ => ⟨S12288x9472, .fp8e4m3⟩
  | .hbm, ⟨7, _⟩ => ⟨S12288x3584, .fp8e4m3⟩
  | .hbm, ⟨8, _⟩ => ⟨S12288x1, .f32⟩
  | .local _ .vmem, ⟨0, _⟩ => ⟨S12288x3584, .bf16⟩
  | .local _ .vmem, ⟨1, _⟩ => ⟨S3584x18944, .fp8e4m3⟩
  | .local _ .vmem, ⟨2, _⟩ => ⟨S1x18944, .f32⟩
  | .local _ .vmem, ⟨3, _⟩ => ⟨S12288x1, .f32⟩
  | .local _ .vmem, ⟨4, _⟩ => ⟨S12288x9472, .fp8e4m3⟩
  | .local _ .vmem, ⟨5, _⟩ => ⟨S12288x3584, .fp8e4m3⟩
  | .local _ .vmem, ⟨6, _⟩ => ⟨S12288x1, .f32⟩
  | _, _ => ⟨S3x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x9472 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.Terms.lean ====
/-
  What one grid step of the kernel computes, as functions of what it reads: the names the run (`Run/Step*.lean`), the
  proof data (`Run/Data.lean`) and the value proof speak in. Each is a composition of the payload terms of the body's
  skeleton; nothing here is about memory.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow

@[expose] public section

noncomputable section

namespace Cert.KernelIdeal.Run

open Cert.KernelIdeal Cert.KernelIdeal.Gen Idealize.ShloMosaic Idealize.ShloMosaic.TcCoe

variable {F : FTy → Type} [FloatOps F]

/-- The codes of a block of rows of x. -/
def xCodes (x : Vec F S512x3584 .bf16) : Vec F S512x3584 .fp8e4m3 :=
  k0_pay23 (k0_pay4 x) (k0_pay10 (k0_pay5 x) (k0_pay6 x) (k0_pay7 x) 4#32)

/-- The scales of a block of rows of x. -/
def xScale (x : Vec F S512x3584 .bf16) : Vec F S512x1 .f32 :=
  k0_pay22 (F := F) (k0_pay9 (k0_pay5 x) (k0_pay6 x) (k0_pay7 x) 4#32) k0_pay11

/-- One tile of h: 512 rows by 256 columns, from the rows' codes and scales, the tile's gate and up weights and
    their scales. -/
abbrev hTile (xc : Vec F S512x3584 .fp8e4m3) (xs : Vec F S512x1 .f32) (wg wu : Vec F S3584x256 .fp8e4m3)
    (sg su : Vec F S1x256 .f32) : Vec F S512x256 .f32 :=
  k0_pay26 xc xs wg sg wu su

/-- The running row maximum of |h| after one more tile. -/
abbrev maxNext (a : Vec F S512x1 .f32) (xc : Vec F S512x3584 .fp8e4m3) (xs : Vec F S512x1 .f32)
    (wg wu : Vec F S3584x256 .fp8e4m3) (sg su : Vec F S1x256 .f32) : Vec F S512x1 .f32 :=
  k0_pay1 a (k0_pay27 xc xs wg sg wu su)

/-- The running row maximum before the first tile. -/
abbrev maxZero : Vec F S512x1 .f32 := k0_pay24

/-- The scales of a block of rows of h, from the row maxima. -/
def hScale (a : Vec F S512x1 .f32) : Vec F S512x1 .f32 :=
  k0_pay2 (F := F) (k0_pay19 a (k0_pay12 a) (k0_pay13 a) (k0_pay14 a) (k0_pay15 a))
    (k0_pay20 a (k0_pay12 a) (k0_pay13 a) (k0_pay14 a) (k0_pay15 a)) k0_pay21

/-- The codes of a block of rows of h, from the row maxima and the rows. -/
def hCodes (a : Vec F S512x1 .f32) (h : Vec F S512x9472 .f32) : Vec F S512x9472 .fp8e4m3 :=
  k0_pay3 (k0_pay18 a (k0_pay12 a) (k0_pay13 a) (k0_pay14 a) (k0_pay15 a)) h

/-- The h buffer after the step at coordinates `i` stores its tile over contents `h`. -/
def hPut (i : grid0.Coords) (h : Vec F S512x9472 .f32) (v : Vec F S512x256 .f32) : Vec F S512x9472 .f32 :=
  VecWindow.put h (k0_off1 i) S512x256.size v

/-- Loading the whole of a [512, 3584] buffer finds its contents. -/
theorem load_rows {ty} (arg : Memref sig .tc .vmem S512x3584 ty) (f : arg.view.ty.Contents (Elt F)) :
    View.readAt (Elt F) arg.view (Rect.unit ![0, 0] ![512, 3584] inb_S512x3584_S512x3584_0_0).toLoadRect f = View.read (Elt F) arg.view f :=
  View.readAt_full arg.view f inb_S512x3584_S512x3584_0_0

/-- A store over the whole of a [512, 3584] buffer leaves the value stored. -/
theorem store_rows {ty} (arg : Memref sig .tc .vmem S512x3584 ty) (f : arg.view.ty.Contents (Elt F))
    (w : Vec F S512x3584 ty) (L : List (View.Piece (Elt F) S512x3584 ty)) :
    View.read (Elt F) arg.view (arg.view.writes (Elt F) f (⟨Rect.unit ![0, 0] ![512, 3584] inb_S512x3584_S512x3584_0_0, w⟩ :: L)) = w :=
  View.read_writes_full arg.view f inb_S512x3584_S512x3584_0_0 w L

/-- Loading the whole of a [512, 1] buffer finds its contents. -/
theorem load_col {ty} (arg : Memref sig .tc .vmem S512x1 ty) (f : arg.view.ty.Contents (Elt F)) :
    View.readAt (Elt F) arg.view (Rect.unit ![0, 0] ![512, 1] inb_S512x1_S512x1_0_0).toLoadRect f = View.read (Elt F) arg.view f :=
  View.readAt_full arg.view f inb_S512x1_S512x1_0_0

/-- A store over the whole of a [512, 1] buffer leaves the value stored. -/
theorem store_col {ty} (arg : Memref sig .tc .vmem S512x1 ty) (f : arg.view.ty.Contents (Elt F))
    (w : Vec F S512x1 ty) (L : List (View.Piece (Elt F) S512x1 ty)) :
    View.read (Elt F) arg.view (arg.view.writes (Elt F) f (⟨Rect.unit ![0, 0] ![512, 1] inb_S512x1_S512x1_0_0, w⟩ :: L)) = w :=
  View.read_writes_full arg.view f inb_S512x1_S512x1_0_0 w L

/-- Loading the whole of a [3584, 256] buffer finds its contents. -/
theorem load_weights {ty} (arg : Memref sig .tc .vmem S3584x256 ty) (f : arg.view.ty.Contents (Elt F)) :
    View.readAt (Elt F) arg.view (Rect.unit ![0, 0] ![3584, 256] inb_S3584x256_S3584x256_0_0).toLoadRect f = View.read (Elt F) arg.view f :=
  View.readAt_full arg.view f inb_S3584x256_S3584x256_0_0

/-- Loading the whole of a [1, 256] buffer finds its contents. -/
theorem load_scales {ty} (arg : Memref sig .tc .vmem S1x256 ty) (f : arg.view.ty.Contents (Elt F)) :
    View.readAt (Elt F) arg.view (Rect.unit ![0, 0] ![1, 256] inb_S1x256_S1x256_0_0).toLoadRect f = View.read (Elt F) arg.view f :=
  View.readAt_full arg.view f inb_S1x256_S1x256_0_0

/-- Loading the whole of a [512, 9472] buffer finds its contents. -/
theorem load_hidden {ty} (arg : Memref sig .tc .vmem S512x9472 ty) (f : arg.view.ty.Contents (Elt F)) :
    View.readAt (Elt F) arg.view (Rect.unit ![0, 0] ![512, 9472] inb_S512x9472_S512x9472_0_0).toLoadRect f = View.read (Elt F) arg.view f :=
  View.readAt_full arg.view f inb_S512x9472_S512x9472_0_0

/-- A store over the whole of a [512, 9472] buffer leaves the value stored. -/
theorem store_hidden {ty} (arg : Memref sig .tc .vmem S512x9472 ty) (f : arg.view.ty.Contents (Elt F))
    (w : Vec F S512x9472 ty) (L : List (View.Piece (Elt F) S512x9472 ty)) :
    View.read (Elt F) arg.view (arg.view.writes (Elt F) f (⟨Rect.unit ![0, 0] ![512, 9472] inb_S512x9472_S512x9472_0_0, w⟩ :: L)) = w :=
  View.read_writes_full arg.view f inb_S512x9472_S512x9472_0_0 w L

/-- A store of a step's tile into the h buffer puts the tile over the buffer's contents. -/
theorem store_tile (i : grid0.Coords) (arg : Memref sig .tc .vmem S512x9472 .f32) (f : arg.view.ty.Contents (Elt F))
    (w : Vec F S512x256 .f32) (L : List (View.Piece (Elt F) S512x9472 .f32)) :
    View.read (Elt F) arg.view (arg.view.writes (Elt F) f (⟨Rect.unit (k0_off1 i) ![512, 256] (k0_off1_inb i), w⟩ :: L))
      = hPut i (View.read (Elt F) arg.view (arg.view.writes (Elt F) f L)) w :=
  View.read_writes_cons_put arg.view f (k0_off1_inb i) w L rfl

end Cert.KernelIdeal.Run

end
-- ==== Proof.Run.StepA.lean ====
/-
  The first grid step of a row of steps: it quantises the row's block of x, storing its codes and scales, sets the
  running row maximum to zero, and then stores one tile of h and updates the maximum as every step does.
-/
module

public import proofs.«01_k».proof.Proof.Run.Terms
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem stepA (c : Dev nD) (i : grid0.Coords) (arg2 : Memref sig .tc .vmem S512x3584 .bf16) (harg2 : arg2.IsWhole)
    (arg3 : Memref sig .tc .vmem S3584x256 .fp8e4m3) (harg3 : arg3.IsWhole) (arg4 : Memref sig .tc .vmem S3584x256 .fp8e4m3) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S512x1 .f32) (harg7 : arg7.IsWhole) (arg8 : Memref sig .tc .vmem S512x9472 .fp8e4m3) (harg8 : arg8.IsWhole)
    (arg9 : Memref sig .tc .vmem S512x3584 .fp8e4m3) (harg9 : arg9.IsWhole) (arg10 : Memref sig .tc .vmem S512x1 .f32) (harg10 : arg10.IsWhole)
    (arg11 : Memref sig .tc .vmem S512x9472 .f32) (harg11 : arg11.IsWhole) (arg12 : Memref sig .tc .vmem S512x1 .f32) (harg12 : arg12.IsWhole)
    (hc0 : k0_cond1 i = 1#1) (hc1 : ¬k0_cond2 i = 1#1)
    (x0 : Vec F S512x3584 .bf16) (x1 x2 : Vec F S3584x256 .fp8e4m3) (x3 x4 : Vec F S1x256 .f32) (xc : Vec F S512x3584 .fp8e4m3)
    (xs : Vec F S512x1 .f32) (h : Vec F S512x9472 .f32) (a : Vec F S512x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg9 fullShare xc
        ∗ owns (c : Thread nD τ) arg10 fullShare xs
        ∗ owns (c : Thread nD τ) arg11 fullShare h
        ∗ owns (c : Thread nD τ) arg12 fullShare a
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg9 fullShare (xCodes x0)
            ∗ owns (c : Thread nD τ) arg10 fullShare (xScale x0)
            ∗ owns (c : Thread nD τ) arg11 fullShare (hPut i h (hTile (xCodes x0) (xScale x0) x1 x2 x3 x4))
            ∗ owns (c : Thread nD τ) arg12 fullShare (maxNext maxZero (xCodes x0) (xScale x0) x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H9]
  · iexists _; isplitr; swap; · iexact H9
    ipureintro
    repeat first
      | delta stepA.sl.r_6 | delta stepA.sl.v32 | delta stepA.sl.v5 | delta stepA.sl.v3 | delta stepA.sl.H9_1 | delta stepA.sl.H10_1 | delta stepA.sl.H12_1 | delta stepA.sl.r_5 | delta stepA.sl.r_4 | delta stepA.sl.r_3 | delta stepA.sl.r_2 | delta stepA.sl.r_1 | delta stepA.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  isplitl [H10]
  · iexists _; isplitr; swap; · iexact H10
    ipureintro
    repeat first
      | delta stepA.sl.r_6 | delta stepA.sl.v32 | delta stepA.sl.v5 | delta stepA.sl.v3 | delta stepA.sl.H9_1 | delta stepA.sl.H10_1 | delta stepA.sl.H12_1 | delta stepA.sl.r_5 | delta stepA.sl.r_4 | delta stepA.sl.r_3 | delta stepA.sl.r_2 | delta stepA.sl.r_1 | delta stepA.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  isplitl [H11]
  · iexists _; isplitr; swap; · iexact H11
    ipureintro
    repeat first
      | delta stepA.sl.r_6 | delta stepA.sl.v32 | delta stepA.sl.v5 | delta stepA.sl.v3 | delta stepA.sl.H9_1 | delta stepA.sl.H10_1 | delta stepA.sl.H12_1 | delta stepA.sl.r_5 | delta stepA.sl.r_4 | delta stepA.sl.r_3 | delta stepA.sl.r_2 | delta stepA.sl.r_1 | delta stepA.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  iexists _; isplitr; swap; · iexact H12
  ipureintro
  repeat first
    | delta stepA.sl.r_6 | delta stepA.sl.v32 | delta stepA.sl.v5 | delta stepA.sl.v3 | delta stepA.sl.H9_1 | delta stepA.sl.H10_1 | delta stepA.sl.H12_1 | delta stepA.sl.r_5 | delta stepA.sl.r_4 | delta stepA.sl.r_3 | delta stepA.sl.r_2 | delta stepA.sl.r_1 | delta stepA.sl.r
  simp only [load_rows, load_col, load_weights, load_scales, load_hidden,
      store_rows, store_col, store_hidden, View.readCov, Memref.IsWhole.read_unread, View.writes_nil, store_tile]
  try simp only [xCodes, xScale, hCodes, hScale, hTile, maxNext, maxZero]

end Cert.KernelIdeal.Run

end
-- ==== Proof.Run.StepB.lean ====
/-
  One grid step of the kernel that is neither the first nor the last of its row of steps: it reads the rows' codes and
  scales where the first step left them, stores one tile of h and updates the running row maximum.
-/
module

public import proofs.«01_k».proof.Proof.Run.Terms
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
theorem stepB (c : Dev nD) (i : grid0.Coords) (arg2 : Memref sig .tc .vmem S512x3584 .bf16) (harg2 : arg2.IsWhole)
    (arg3 : Memref sig .tc .vmem S3584x256 .fp8e4m3) (harg3 : arg3.IsWhole) (arg4 : Memref sig .tc .vmem S3584x256 .fp8e4m3) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S512x1 .f32) (harg7 : arg7.IsWhole) (arg8 : Memref sig .tc .vmem S512x9472 .fp8e4m3) (harg8 : arg8.IsWhole)
    (arg9 : Memref sig .tc .vmem S512x3584 .fp8e4m3) (harg9 : arg9.IsWhole) (arg10 : Memref sig .tc .vmem S512x1 .f32) (harg10 : arg10.IsWhole)
    (arg11 : Memref sig .tc .vmem S512x9472 .f32) (harg11 : arg11.IsWhole) (arg12 : Memref sig .tc .vmem S512x1 .f32) (harg12 : arg12.IsWhole)
    (hc0 : ¬k0_cond1 i = 1#1) (hc1 : ¬k0_cond2 i = 1#1)
    (x0 : Vec F S512x3584 .bf16) (x1 x2 : Vec F S3584x256 .fp8e4m3) (x3 x4 : Vec F S1x256 .f32) (xc : Vec F S512x3584 .fp8e4m3)
    (xs : Vec F S512x1 .f32) (h : Vec F S512x9472 .f32) (a : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg9 fullShare xc ∗ owns (c : Thread nD τ) arg10 fullShare xs
        ∗ owns (c : Thread nD τ) arg11 fullShare h ∗ owns (c : Thread nD τ) arg12 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg9 fullShare xc ∗ owns (c : Thread nD τ) arg10 fullShare xs
            ∗ owns (c : Thread nD τ) arg11 fullShare (hPut i h (hTile xc xs x1 x2 x3 x4))
            ∗ owns (c : Thread nD τ) arg12 fullShare (maxNext a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8; obtain rfl := harg11.eq_unread hfs0; obtain rfl := harg12.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg9.read_unread _
    iexact H7
  isplitl [H8]
  · iexists _; isplitr; · ipureintro; exact harg10.read_unread _
    iexact H8
  isplitl [HS0]
  · iexists _; isplitr; swap; · iexact HS0
    ipureintro
    simp only [load_rows, load_col, load_weights, load_scales, load_hidden,
      store_rows, store_col, store_hidden, View.readCov, Memref.IsWhole.read_unread, View.writes_nil, store_tile]
  iexists _; isplitr; swap; · iexact HS1
  ipureintro
  delta stepB.sl.r_1 stepB.sl.r
  simp only [load_rows, load_col, load_weights, load_scales, load_hidden,
    store_rows, store_col, store_hidden, View.readCov, Memref.IsWhole.read_unread, View.writes_nil, store_tile]

end Cert.KernelIdeal.Run

end
-- ==== Proof.Run.StepC.lean ====
/-
  The last grid step of a row of steps: it stores the last tile of h and updates the row maximum as every step does, and
  then quantises the whole of h by that maximum, storing its codes and scales.
-/
module

public import proofs.«01_k».proof.Proof.Run.Terms
public import Idealize.ShloMosaic.Lib.Pipeline.TableIdle

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem stepC (c : Dev nD) (i : grid0.Coords) (arg2 : Memref sig .tc .vmem S512x3584 .bf16) (harg2 : arg2.IsWhole)
    (arg3 : Memref sig .tc .vmem S3584x256 .fp8e4m3) (harg3 : arg3.IsWhole) (arg4 : Memref sig .tc .vmem S3584x256 .fp8e4m3) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S512x1 .f32) (harg7 : arg7.IsWhole) (arg8 : Memref sig .tc .vmem S512x9472 .fp8e4m3) (harg8 : arg8.IsWhole)
    (arg9 : Memref sig .tc .vmem S512x3584 .fp8e4m3) (harg9 : arg9.IsWhole) (arg10 : Memref sig .tc .vmem S512x1 .f32) (harg10 : arg10.IsWhole)
    (arg11 : Memref sig .tc .vmem S512x9472 .f32) (harg11 : arg11.IsWhole) (arg12 : Memref sig .tc .vmem S512x1 .f32) (harg12 : arg12.IsWhole)
    (hc0 : ¬k0_cond1 i = 1#1) (hc1 : k0_cond2 i = 1#1)
    (x0 : Vec F S512x3584 .bf16) (x1 x2 : Vec F S3584x256 .fp8e4m3) (x3 x4 : Vec F S1x256 .f32) (d5 : Vec F S512x1 .f32) (d6 : Vec F S512x9472 .fp8e4m3) (xc : Vec F S512x3584 .fp8e4m3)
    (xs : Vec F S512x1 .f32) (h : Vec F S512x9472 .f32) (a : Vec F S512x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare d5
        ∗ owns (c : Thread nD τ) arg8 fullShare d6
        ∗ owns (c : Thread nD τ) arg9 fullShare xc
        ∗ owns (c : Thread nD τ) arg10 fullShare xs
        ∗ owns (c : Thread nD τ) arg11 fullShare h
        ∗ owns (c : Thread nD τ) arg12 fullShare a
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (hScale (maxNext a xc xs x1 x2 x3 x4))
            ∗ owns (c : Thread nD τ) arg8 fullShare (hCodes (maxNext a xc xs x1 x2 x3 x4) (hPut i h (hTile xc xs x1 x2 x3 x4)))
            ∗ owns (c : Thread nD τ) arg9 fullShare xc
            ∗ owns (c : Thread nD τ) arg10 fullShare xs
            ∗ owns (c : Thread nD τ) arg11 fullShare (hPut i h (hTile xc xs x1 x2 x3 x4))
            ∗ owns (c : Thread nD τ) arg12 fullShare (maxNext a xc xs x1 x2 x3 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part3_eq_skeleton, k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    repeat first
      | delta stepC.sl.r_8 | delta stepC.sl.r_7 | delta stepC.sl.r_6 | delta stepC.sl.r_5 | delta stepC.sl.r_4 | delta stepC.sl.r_3 | delta stepC.sl.v43 | delta stepC.sl.v140 | delta stepC.sl.H12_1 | delta stepC.sl.H11_1 | delta stepC.sl.r_2 | delta stepC.sl.r_1 | delta stepC.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  isplitl [H8]
  · iexists _; isplitr; swap; · iexact H8
    ipureintro
    repeat first
      | delta stepC.sl.r_8 | delta stepC.sl.r_7 | delta stepC.sl.r_6 | delta stepC.sl.r_5 | delta stepC.sl.r_4 | delta stepC.sl.r_3 | delta stepC.sl.v43 | delta stepC.sl.v140 | delta stepC.sl.H12_1 | delta stepC.sl.H11_1 | delta stepC.sl.r_2 | delta stepC.sl.r_1 | delta stepC.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    repeat first
      | delta stepC.sl.r_8 | delta stepC.sl.r_7 | delta stepC.sl.r_6 | delta stepC.sl.r_5 | delta stepC.sl.r_4 | delta stepC.sl.r_3 | delta stepC.sl.v43 | delta stepC.sl.v140 | delta stepC.sl.H12_1 | delta stepC.sl.H11_1 | delta stepC.sl.r_2 | delta stepC.sl.r_1 | delta stepC.sl.r
    simp only [load_rows, load_col, load_weights, load_scales, load_hidden,
      store_rows, store_col, store_hidden, View.readCov, Memref.IsWhole.read_unread, View.writes_nil, store_tile]
    try simp only [xCodes, xScale, hCodes, hScale, hTile, maxNext, maxZero]
  iexists _; isplitr; swap; · iexact H12
  ipureintro
  repeat first
    | delta stepC.sl.r_8 | delta stepC.sl.r_7 | delta stepC.sl.r_6 | delta stepC.sl.r_5 | delta stepC.sl.r_4 | delta stepC.sl.r_3 | delta stepC.sl.v43 | delta stepC.sl.v140 | delta stepC.sl.H12_1 | delta stepC.sl.H11_1 | delta stepC.sl.r_2 | delta stepC.sl.r_1 | delta stepC.sl.r
  simp only [load_rows, load_col, load_weights, load_scales, load_hidden,
      store_rows, store_col, store_hidden, View.readCov, Memref.IsWhole.read_unread, View.writes_nil, store_tile]
  try simp only [xCodes, xScale, hCodes, hScale, hTile, maxNext, maxZero]

end Cert.KernelIdeal.Run

end
-- ==== Proof.Run.Data.lean ====
/-
  What each buffer of the kernel holds between grid steps: the point's branch conditions and offsets in closed form, the
  tile of h a point computes, the running row maximum after it, the whole of h a row of steps ends with, and how storing
  one more tile extends the part of h already there.
-/
module

public import proofs.«01_k».proof.Proof.Run.StepA
public import proofs.«01_k».proof.Proof.Run.StepB
public import proofs.«01_k».proof.Proof.Run.StepC
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The points -/

theorem cfg0_N : cfg0.N = 888 := N_0

/-- The first coordinate of point `t` is its row of steps. -/
theorem coord0 (t : Fin cfg0.N) : (grid0.coords t 0).val = t.val / 37 % 24 := Pipeline.Grid.coords_val (G := grid0) t 0 (by decide) rfl
/-- The second coordinate of point `t` is its step within the row. -/
theorem coord1 (t : Fin cfg0.N) : (grid0.coords t 1).val = t.val / 1 % 37 := Pipeline.Grid.coords_val (G := grid0) t 1 (by decide) rfl

/-- The quantising branch is taken at the first step of a row. -/
theorem cond1_iff (t : Fin cfg0.N) : k0_cond1 (grid0.coords t) = 1#1 ↔ t.val % 37 = 0 := by
  have ht : t.val < 888 := Nat.lt_of_lt_of_eq t.isLt N_0
  have e1 := coord1 t
  simp only [k0_cond1, e1]
  word_cmp

/-- The closing branch is taken at the last step of a row. -/
theorem cond2_iff (t : Fin cfg0.N) : k0_cond2 (grid0.coords t) = 1#1 ↔ t.val % 37 = 36 := by
  have ht : t.val < 888 := Nat.lt_of_lt_of_eq t.isLt N_0
  have e1 := coord1 t
  simp only [k0_cond2, e1]
  word_cmp

/-- The tile a step stores starts at column 256 times the step. -/
theorem off1_eq (t : Fin cfg0.N) : k0_off1 (grid0.coords t) = ![0, 256 * (t.val % 37)] := by
  have e1 := coord1 t
  have hk : t.val % 37 < 37 := Nat.mod_lt _ (by decide)
  rw [Nat.div_one] at e1
  unfold k0_off1
  simp only [e1]
  congr 1
  have : ∀ k < 37, (Scalar.indexCast (Scalar.muli (BitVec.ofNat 32 k) 256#32)).toNat = 256 * k := by decide
  funext a
  simp only [this _ hk]

/-! ## The blocks of a row of steps -/

/-- The first point of the row of steps that point `t` lies in. -/
def rowStart (t : Fin cfg0.N) : Fin cfg0.N := ⟨t.val / 37 * 37, lt_of_le_of_lt (Nat.div_mul_le_self _ _) t.isLt⟩

theorem rowStart_self (t : Fin cfg0.N) (h : t.val % 37 = 0) : rowStart t = t := Fin.ext (by show t.val / 37 * 37 = t.val; omega)

theorem rowStart_congr (t t' : Fin cfg0.N) (h : t.val / 37 = t'.val / 37) : rowStart t = rowStart t' :=
  Fin.ext (by show t.val / 37 * 37 = t'.val / 37 * 37; rw [h])

/-- The codes of the row's block of x. -/
def rowCodes (c : Dev nD) (t : Fin cfg0.N) : Vec F S512x3584 .fp8e4m3 := xCodes (iblk m c 0 (rowStart t))
/-- The scales of the row's block of x. -/
def rowScale (c : Dev nD) (t : Fin cfg0.N) : Vec F S512x1 .f32 := xScale (iblk m c 0 (rowStart t))

/-- The tile of h point `t` computes. -/
def hAt (c : Dev nD) (t : Fin cfg0.N) : Vec F S512x256 .f32 :=
  hTile (rowCodes m c t) (rowScale m c t) (iblk m c 1 t) (iblk m c 2 t) (iblk m c 3 t) (iblk m c 4 t)

/-- The running maximum after point `t`, from the maximum `a` before it. -/
def maxStep (c : Dev nD) (t : Fin cfg0.N) (a : Vec F S512x1 .f32) : Vec F S512x1 .f32 :=
  maxNext a (rowCodes m c t) (rowScale m c t) (iblk m c 1 t) (iblk m c 2 t) (iblk m c 3 t) (iblk m c 4 t)

/-- The running row maximum after point `n`: restarted from zero at the first step of a row. -/
def maxAt (c : Dev nD) : (n : ℕ) → n < cfg0.N → Vec F S512x1 .f32
  | 0, h => maxStep m c ⟨0, h⟩ maxZero
  | n + 1, h => maxStep m c ⟨n + 1, h⟩ (if (n + 1) % 37 = 0 then maxZero else maxAt c n (Nat.lt_of_succ_lt h))

theorem maxAt_first (c : Dev nD) (t : Fin cfg0.N) (h : t.val % 37 = 0) : maxAt m c t.val t.isLt = maxStep m c t maxZero := by
  obtain ⟨n, hn⟩ := t
  cases n with
  | zero => rfl
  | succ n => simp only [maxAt]; rw [if_pos h]

theorem maxAt_next (c : Dev nD) (t : Fin cfg0.N) (h : ¬t.val % 37 = 0) :
    maxAt m c t.val t.isLt = maxStep m c t (maxAt m c (t.val - 1) (by omega)) := by
  obtain ⟨n, hn⟩ := t
  cases n with
  | zero => exact absurd rfl h
  | succ n => simp only [maxAt]; rw [if_neg h]; rfl

/-- The point of `t`'s row of steps that stores column `k` of h. -/
def colPoint (t : Fin cfg0.N) (k : ℕ) (hk : k < 9472) : Fin cfg0.N :=
  ⟨t.val / 37 * 37 + k / 256, by have := t.isLt; have := cfg0_N; omega⟩

/-- The whole of h a row of steps computes: column `k` is column `k % 256` of the tile of step `k / 256`. -/
def hRow (c : Dev nD) (t : Fin cfg0.N) : Vec F S512x9472 .f32 := fun y =>
  hAt m c (colPoint t (y 1).val (y 1).isLt) (fun a => match a with
    | ⟨0, _⟩ => (y 0 : Fin 512)
    | ⟨1, _⟩ => (⟨(y 1).val % 256, Nat.mod_lt _ (by decide)⟩ : Fin 256))

theorem hRow_congr (c : Dev nD) (t t' : Fin cfg0.N) (h : t.val / 37 = t'.val / 37) : hRow m c t = hRow m c t' := by
  have e : ∀ k hk, colPoint t k hk = colPoint t' k hk := fun k hk => Fin.ext (by show t.val / 37 * 37 + _ = t'.val / 37 * 37 + _; rw [h])
  funext y
  exact congrArg (fun p => hAt m c p _) (e (y 1).val (y 1).isLt)

/-- The columns of h that the steps up to `t` of its row have stored hold h. -/
def Filled (c : Dev nD) (t : Fin cfg0.N) (d : Vec F S512x9472 .f32) : Prop :=
  ∀ y : S512x9472.Idx, (y 1).val < 256 * (t.val % 37 + 1) → d y = hRow m c t y

/-- Putting a step's tile over contents that hold the tiles before it fills the columns up to the step's. -/
theorem filled_put (c : Dev nD) (t : Fin cfg0.N) (d : Vec F S512x9472 .f32)
    (hd : ∀ y : S512x9472.Idx, (y 1).val < 256 * (t.val % 37) → d y = hRow m c t y) :
    Filled m c t (hPut (grid0.coords t) d (hAt m c t)) := by
  intro y hy
  have y0 : (y 0).val < 512 := (y 0).isLt
  unfold hPut VecWindow.put
  by_cases h : 256 * (t.val % 37) ≤ (y 1).val
  · have hin : ∀ a, k0_off1 (grid0.coords t) a ≤ (y a).val ∧ (y a).val < k0_off1 (grid0.coords t) a + S512x256.size a := by
      rw [off1_eq]
      intro a
      match a with
      | ⟨0, _⟩ => exact ⟨Nat.zero_le _, by show (y 0).val < 0 + 512; omega⟩
      | ⟨1, _⟩ => exact ⟨h, by show (y 1).val < 256 * (t.val % 37) + 256; omega⟩
    rw [dif_pos hin]
    have ep : colPoint t (y 1).val (y 1).isLt = t := Fin.ext (by
      show t.val / 37 * 37 + (y 1).val / 256 = t.val; omega)
    refine Eq.trans ?_ (congrArg (fun p => hAt m c p _) ep).symm
    congr 1
    funext a
    apply Fin.ext
    rw [Rect.unitLocal_val]
    match a with
    | ⟨0, _⟩ => show (y 0).val - k0_off1 (grid0.coords t) 0 = (y 0).val; rw [off1_eq]; rfl
    | ⟨1, _⟩ => show (y 1).val - k0_off1 (grid0.coords t) 1 = (y 1).val % 256; rw [off1_eq]; show (y 1).val - 256 * (t.val % 37) = _; omega
  · rw [dif_neg (fun hin => h (by have := (hin 1).1; rw [off1_eq] at this; exact this))]
    exact hd y (by omega)

/-- The same at a step that is not the first of its row, from what the step before it left. -/
theorem filled_next (c : Dev nD) (t t' : Fin cfg0.N) (ht : ¬t.val % 37 = 0) (ht' : t'.val = t.val - 1) (d : Vec F S512x9472 .f32)
    (hd : Filled m c t' d) : Filled m c t (hPut (grid0.coords t) d (hAt m c t)) :=
  filled_put m c t d fun y hy => by
    rw [hd y (by rw [ht']; omega), hRow_congr m c t' t (by rw [ht']; omega)]

/-- The same at the first step of a row, over any contents. -/
theorem filled_first (c : Dev nD) (t : Fin cfg0.N) (ht : t.val % 37 = 0) (d : Vec F S512x9472 .f32) :
    Filled m c t (hPut (grid0.coords t) d (hAt m c t)) :=
  filled_put m c t d fun y hy => absurd hy (by rw [ht]; omega)

/-- After the last step of a row the buffer holds the whole of h. -/
theorem filled_last (c : Dev nD) (t : Fin cfg0.N) (ht : t.val % 37 = 36) (d : Vec F S512x9472 .f32) (hd : Filled m c t d) :
    d = hRow m c t := by
  funext y
  have : (y 1).val < 9472 := (y 1).isLt
  exact hd y (by rw [ht]; omega)

end Cert.KernelIdeal.Run

end
-- ==== Proof.Run.Frame.lean ====
/-
  The kernel runs: the pipeline's proof data (what each staging buffer holds after each grid step, and what the two scratch
  buffers hold between steps), the body's triple at every step from the three step lemmas, and from it the run of the whole
  program, with every array's final contents as the pipeline library computes them.
-/
module

public import proofs.«01_k».proof.Proof.Run.Data
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Window 0's current staging buffer at point `t`. -/
abbrev stg0 (t : Fin cfg0.N) : Memref sig .tc .vmem S512x3584 .bf16 := win0_0.stage (cfg0.slots t 0)
/-- Window 1's current staging buffer at point `t`. -/
abbrev stg1 (t : Fin cfg0.N) : Memref sig .tc .vmem S3584x256 .fp8e4m3 := win0_1.stage (cfg0.slots t 1)
/-- Window 2's current staging buffer at point `t`. -/
abbrev stg2 (t : Fin cfg0.N) : Memref sig .tc .vmem S3584x256 .fp8e4m3 := win0_2.stage (cfg0.slots t 2)
/-- Window 3's current staging buffer at point `t`. -/
abbrev stg3 (t : Fin cfg0.N) : Memref sig .tc .vmem S1x256 .f32 := win0_3.stage (cfg0.slots t 3)
/-- Window 4's current staging buffer at point `t`. -/
abbrev stg4 (t : Fin cfg0.N) : Memref sig .tc .vmem S1x256 .f32 := win0_4.stage (cfg0.slots t 4)
/-- Window 5's current staging buffer at point `t`. -/
abbrev stg5 (t : Fin cfg0.N) : Memref sig .tc .vmem S512x1 .f32 := win0_5.stage (cfg0.slots t 5)
/-- Window 6's current staging buffer at point `t`. -/
abbrev stg6 (t : Fin cfg0.N) : Memref sig .tc .vmem S512x9472 .fp8e4m3 := win0_6.stage (cfg0.slots t 6)
/-- Window 7's current staging buffer at point `t`. -/
abbrev stg7 (t : Fin cfg0.N) : Memref sig .tc .vmem S512x3584 .fp8e4m3 := win0_7.stage (cfg0.slots t 7)
/-- Window 8's current staging buffer at point `t`. -/
abbrev stg8 (t : Fin cfg0.N) : Memref sig .tc .vmem S512x1 .f32 := win0_8.stage (cfg0.slots t 8)
/-- The scratch buffer that collects h. -/
abbrev hBuf : Memref sig .tc .vmem S512x9472 .f32 := Memref.whole cc0_scratch0
/-- The scratch buffer of the running row maximum. -/
abbrev maxBuf : Memref sig .tc .vmem S512x1 .f32 := Memref.whole cc0_scratch1

theorem PhiA_eq (c : Dev nD) :
    (Pipeline.ΦA spec0 c : sProp 𝕄)
      = iprop(iprop((∃ d, owns (c : Thread nD τ) hBuf fullShare d) ∗ (∃ d, owns (c : Thread nD τ) maxBuf fullShare d)) ∗ (∃ r, prngReg c r)) := by
  unfold Pipeline.ΦA; rw [scopedRest0_eq]; simp only [hBuf, maxBuf, owns_whole]; try rfl

/-- What the scratch buffers hold between steps: anything before the first; after point `n`, the h buffer the tiles its
    row has stored so far and the other the running maximum. -/
def PhiS (c : Dev nD) : (n : ℕ) → n ≤ cfg0.N → sProp 𝕄
  | 0, _ => Pipeline.ΦA spec0 c
  | n + 1, hn => iprop(iprop((∃ d, ⌜Filled m c ⟨n, hn⟩ d⌝ ∗ owns (c : Thread nD τ) hBuf fullShare d)
      ∗ owns (c : Thread nD τ) maxBuf fullShare (maxAt m c n hn)) ∗ (∃ r, prngReg c r))

theorem PhiS_succ (c : Dev nD) (n : ℕ) (hn : n < cfg0.N) :
    PhiS m c (n + 1) hn = iprop(iprop((∃ d, ⌜Filled m c ⟨n, hn⟩ d⌝ ∗ owns (c : Thread nD τ) hBuf fullShare d)
      ∗ owns (c : Thread nD τ) maxBuf fullShare (maxAt m c n hn)) ∗ (∃ r, prngReg c r)) := rfl

theorem PhiS_pos (c : Dev nD) (n : ℕ) (h : n ≤ cfg0.N) (hz : n ≠ 0) :
    PhiS m c n h = iprop(iprop((∃ d, ⌜Filled m c ⟨n - 1, by omega⟩ d⌝ ∗ owns (c : Thread nD τ) hBuf fullShare d)
      ∗ owns (c : Thread nD τ) maxBuf fullShare (maxAt m c (n - 1) (by omega))) ∗ (∃ r, prngReg c r)) := by
  cases n with
  | zero => exact absurd rfl hz
  | succ n => rfl

/-- At any point the contents may be forgotten. -/
theorem PhiS_forget (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨⟨%d, %hd, HS0⟩, HS1⟩, Hg⟩
    isplitl [HS0 HS1]
    · isplitl [HS0]
      · iexists _; iexact HS0
      iexists _; iexact HS1
    iexact Hg

/-! ## The proof data -/

/-- After each step: each input's buffer holds its block; the buffers of x's codes and scales hold the row's; the buffers
    of h's codes and scales hold, at the last step of a row, the row's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScale (maxAt m c t.val t.isLt)
    | ⟨6, _⟩ => hCodes (maxAt m c t.val t.isLt) (hRow m c t)
    | ⟨7, _⟩ => rowCodes m c t
    | ⟨8, _⟩ => rowScale m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hScale (maxAt m c t.val t.isLt) := by dsimp only [dats]
theorem after6 (c : Dev nD) (t : Fin cfg0.N) : (dats m 0 c).after 6 t = hCodes (maxAt m c t.val t.isLt) (hRow m c t) := by dsimp only [dats]
theorem after7 (c : Dev nD) (t : Fin cfg0.N) : (dats m 0 c).after 7 t = rowCodes m c t := by dsimp only [dats]
theorem after8 (c : Dev nD) (t : Fin cfg0.N) : (dats m 0 c).after 8 t = rowScale m c t := by dsimp only [dats]

/-! ## What each buffer holds when the body runs -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem leaves0 (c : Dev nD) (t : Fin cfg0.N) :
    (dats m 0 c).leavesExact 0 t = owns (c : Thread nD τ) (stg0 t) fullShare (iblk m c 0 t) := by
  rw [← after0 m c t]
theorem leaves1 (c : Dev nD) (t : Fin cfg0.N) :
    (dats m 0 c).leavesExact 1 t = owns (c : Thread nD τ) (stg1 t) fullShare (iblk m c 1 t) := by
  rw [← after1 m c t]
theorem leaves2 (c : Dev nD) (t : Fin cfg0.N) :
    (dats m 0 c).leavesExact 2 t = owns (c : Thread nD τ) (stg2 t) fullShare (iblk m c 2 t) := by
  rw [← after2 m c t]
theorem leaves3 (c : Dev nD) (t : Fin cfg0.N) :
    (dats m 0 c).leavesExact 3 t = owns (c : Thread nD τ) (stg3 t) fullShare (iblk m c 3 t) := by
  rw [← after3 m c t]
theorem leaves4 (c : Dev nD) (t : Fin cfg0.N) :
    (dats m 0 c).leavesExact 4 t = owns (c : Thread nD τ) (stg4 t) fullShare (iblk m c 4 t) := by
  rw [← after4 m c t]

/-- The windows of h's codes and scales are idle but at the last step of a row. -/
theorem idle5 (t : Fin cfg0.N) : cfg0.idle 5 (grid0.coords t) = !decide (t.val % 37 = 36) := by
  show (!(k0_cond2 (grid0.coords t) == 1#1)) = _
  rw [Bool.eq_iff_iff]; simp only [Bool.not_eq_true', beq_eq_false_iff_ne, ne_eq, cond2_iff, decide_eq_false_iff_not]
theorem idle6 (t : Fin cfg0.N) : cfg0.idle 6 (grid0.coords t) = !decide (t.val % 37 = 36) := idle5 t
/-- The windows of x's codes and scales are idle but at the first step of a row. -/
theorem idle7 (t : Fin cfg0.N) : cfg0.idle 7 (grid0.coords t) = !decide (t.val % 37 = 0) := by
  show (!(k0_cond1 (grid0.coords t) == 1#1)) = _
  rw [Bool.eq_iff_iff]; simp only [Bool.not_eq_true', beq_eq_false_iff_ne, ne_eq, cond1_iff, decide_eq_false_iff_not]
theorem idle8 (t : Fin cfg0.N) : cfg0.idle 8 (grid0.coords t) = !decide (t.val % 37 = 0) := idle7 t

theorem noFlush5 (t : Fin cfg0.N) (h : ¬t.val % 37 = 36) : (cfg0.win 5).flush t = false :=
  Bool.eq_false_iff.mpr fun h' => h ((flush0_5 t).mp h')
theorem noFlush6 (t : Fin cfg0.N) (h : ¬t.val % 37 = 36) : (cfg0.win 6).flush t = false :=
  Bool.eq_false_iff.mpr fun h' => h ((flush0_6 t).mp h')
theorem noFlush7 (t : Fin cfg0.N) (h : ¬t.val % 37 = 36) : (cfg0.win 7).flush t = false :=
  Bool.eq_false_iff.mpr fun h' => h ((flush0_7 t).mp h')
theorem noFlush8 (t : Fin cfg0.N) (h : ¬t.val % 37 = 36) : (cfg0.win 8).flush t = false :=
  Bool.eq_false_iff.mpr fun h' => h ((flush0_8 t).mp h')

/-- The buffer holds nothing of the row exactly at the row's first step. -/
theorem fresh7 (n : ℕ) (h : n ≤ cfg0.N) : cfg0.fresh 7 n = decide (n % 37 = 0) :=
  cfg0.fresh_tab 7 (fun n => decide (n % 37 = 0)) rfl (fun t => by
    rw [idle7]
    by_cases h1 : t.val % 37 = 36
    · rw [(flush0_7 t).mpr h1]; simp only [Bool.true_or, decide_eq_true_eq]; omega
    · rw [noFlush7 t h1, Bool.eq_iff_iff]
      simp only [Bool.false_or, Bool.and_eq_true, Bool.not_eq_true', decide_eq_false_iff_not, decide_eq_true_eq]
      omega) n h

/-- Past a row's first step the buffer holds what that step stored. -/
theorem before7 (c : Dev nD) (t : Fin cfg0.N) (ht : ¬t.val % 37 = 0) (d) :
    (dats m 0 c).before 7 t d = rowCodes m c t := by
  have hz : t.val ≠ 0 := fun h => ht (by rw [h])
  rw [Pipeline.Dat.before_out_traj (dats m 0 c) 7 rfl (fun _ _ => rfl) (fun t' hz' hi hf => by
      have hf' := hf
      rw [fresh7 t'.val t'.isLt.le, decide_eq_false_iff_not] at hf'
      rw [after7, after7]
      exact congrArg (fun p => xCodes (iblk m c 0 p)) (rowStart_congr _ _ (by show t'.val / 37 = (t'.val - 1) / 37; omega))) t.val t rfl d,
    fresh7 t.val t.isLt.le, decide_eq_false ht, if_neg Bool.false_ne_true, after7]
  exact congrArg (fun p => xCodes (iblk m c 0 p)) (rowStart_congr _ _ (by show (t.val - 1) / 37 = t.val / 37; omega))

/-- The buffer holds nothing of the row exactly at the row's first step. -/
theorem fresh8 (n : ℕ) (h : n ≤ cfg0.N) : cfg0.fresh 8 n = decide (n % 37 = 0) :=
  cfg0.fresh_tab 8 (fun n => decide (n % 37 = 0)) rfl (fun t => by
    rw [idle8]
    by_cases h1 : t.val % 37 = 36
    · rw [(flush0_8 t).mpr h1]; simp only [Bool.true_or, decide_eq_true_eq]; omega
    · rw [noFlush8 t h1, Bool.eq_iff_iff]
      simp only [Bool.false_or, Bool.and_eq_true, Bool.not_eq_true', decide_eq_false_iff_not, decide_eq_true_eq]
      omega) n h

/-- Past a row's first step the buffer holds what that step stored. -/
theorem before8 (c : Dev nD) (t : Fin cfg0.N) (ht : ¬t.val % 37 = 0) (d) :
    (dats m 0 c).before 8 t d = rowScale m c t := by
  have hz : t.val ≠ 0 := fun h => ht (by rw [h])
  rw [Pipeline.Dat.before_out_traj (dats m 0 c) 8 rfl (fun _ _ => rfl) (fun t' hz' hi hf => by
      have hf' := hf
      rw [fresh8 t'.val t'.isLt.le, decide_eq_false_iff_not] at hf'
      rw [after8, after8]
      exact congrArg (fun p => xScale (iblk m c 0 p)) (rowStart_congr _ _ (by show t'.val / 37 = (t'.val - 1) / 37; omega))) t.val t rfl d,
    fresh8 t.val t.isLt.le, decide_eq_false ht, if_neg Bool.false_ne_true, after8]
  exact congrArg (fun p => xScale (iblk m c 0 p)) (rowStart_congr _ _ (by show (t.val - 1) / 37 = t.val / 37; omega))

/-! ## The body at every point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The first step of a row. -/
theorem sound_first (c : Dev nD) (t : Fin cfg0.N) (h0 : t.val % 37 = 0) (h1 : ¬t.val % 37 = 36) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4]
  rw [Dat.leavesExact_idle (dats m 0 c) 5 t (by rw [idle5, decide_eq_false h1]; rfl) (noFlush5 t h1)]
  rw [Dat.leavesExact_idle (dats m 0 c) 6 t (by rw [idle6, decide_eq_false h1]; rfl) (noFlush6 t h1)]
  rw [show (dats m 0 c).leavesExact 7 t = owns (c : Thread nD τ) (stg7 t) fullShare ((dats m 0 c).after 7 t) from by
    unfold Dat.leavesExact; rw [idle7, decide_eq_true h0]; rfl, after7]
  rw [show (dats m 0 c).leavesExact 8 t = owns (c : Thread nD τ) (stg8 t) fullShare ((dats m 0 c).after 8 t) from by
    unfold Dat.leavesExact; rw [idle8, decide_eq_true h0]; rfl, after8]
  rw [maxAt_first m c t h0]
  have e : rowStart t = t := rowStart_self t h0
  have ec : rowCodes m c t = xCodes (iblk m c 0 t) := by unfold rowCodes; rw [e]
  have es : rowScale m c t = xScale (iblk m c 0 t) := by unfold rowScale; rw [e]
  refine (sep_mono_left (PhiS_forget m c t.val (Nat.le_of_lt t.isLt))).trans ?_
  rw [PhiA_eq]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (stepA c (grid0.coords t) _ _ _ _ _ _ _ _ _ _ _ _ _ _ _ _ _ _ _ _ _ _ ((cond1_iff t).mpr h0) (fun h => h1 ((cond2_iff t).mp h)) (iblk m c 0 t) (iblk m c 1 t) (iblk m c 2 t) (iblk m c 3 t) (iblk m c 4 t) _ _ e0 e1 Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [HS0]; · iexact HS0
  isplitl [HS1]; · iexact HS1
  rw [← ec, ← es]
  iintro ⟨H0, H1, H2, H3, H4, H7, H8, HS0, HS1⟩
  isplitl [HS0 HS1 Hg]
  · isplitl [HS0 HS1]
    · isplitl [HS0]
      · iexists _; isplitr; swap; · iexact HS0
        ipureintro; exact filled_first m c t h0 e0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
/-- A step between the first and the last of a row. -/
theorem sound_middle (c : Dev nD) (t : Fin cfg0.N) (h0 : ¬t.val % 37 = 0) (h1 : ¬t.val % 37 = 36) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4]
  rw [Dat.leavesExact_idle (dats m 0 c) 5 t (by rw [idle5, decide_eq_false h1]; rfl) (noFlush5 t h1)]
  rw [Dat.leavesExact_idle (dats m 0 c) 6 t (by rw [idle6, decide_eq_false h1]; rfl) (noFlush6 t h1)]
  rw [Dat.leavesExact_idle (dats m 0 c) 7 t (by rw [idle7, decide_eq_false h0]; rfl) (noFlush7 t h1)]
  rw [Dat.leavesExact_idle (dats m 0 c) 8 t (by rw [idle8, decide_eq_false h0]; rfl) (noFlush8 t h1)]
  have hz : t.val ≠ 0 := fun h => h0 (by rw [h])
  rw [maxAt_next m c t h0, PhiS_pos m c t.val _ hz]
  simp only [before7 m c t h0, before8 m c t h0]
  iintro ⟨⟨⟨⟨%e0, %he, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (stepB c (grid0.coords t) _ _ _ _ _ _ _ _ _ _ _ _ _ _ _ _ _ _ _ _ _ _ (fun h => h0 ((cond1_iff t).mp h)) (fun h => h1 ((cond2_iff t).mp h)) (iblk m c 0 t) (iblk m c 1 t) (iblk m c 2 t) (iblk m c 3 t) (iblk m c 4 t) (rowCodes m c t) (rowScale m c t) e0 _ Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [HS0]; · iexact HS0
  isplitl [HS1]; · iexact HS1
  iintro ⟨H0, H1, H2, H3, H4, H7, H8, HS0, HS1⟩
  isplitl [HS0 HS1 Hg]
  · isplitl [HS0 HS1]
    · isplitl [HS0]
      · iexists _; isplitr; swap; · iexact HS0
        ipureintro; exact filled_next m c t _ h0 rfl e0 he
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 4000000 in
/-- The last step of a row. -/
theorem sound_last (c : Dev nD) (t : Fin cfg0.N) (h1 : t.val % 37 = 36) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4]
  have h0 : ¬t.val % 37 = 0 := by omega
  rw [show (dats m 0 c).leavesExact 5 t = owns (c : Thread nD τ) (stg5 t) fullShare ((dats m 0 c).after 5 t) from by
    unfold Dat.leavesExact; rw [idle5, decide_eq_true h1]; rfl, after5]
  rw [show (dats m 0 c).leavesExact 6 t = owns (c : Thread nD τ) (stg6 t) fullShare ((dats m 0 c).after 6 t) from by
    unfold Dat.leavesExact; rw [idle6, decide_eq_true h1]; rfl, after6]
  rw [show (dats m 0 c).leavesExact 7 t = owns (c : Thread nD τ) (stg7 t) fullShare ((dats m 0 c).after 7 t) from by
    unfold Dat.leavesExact; rw [idle7, decide_eq_false h0, (flush0_7 t).mpr h1]; rfl, after7]
  rw [show (dats m 0 c).leavesExact 8 t = owns (c : Thread nD τ) (stg8 t) fullShare ((dats m 0 c).after 8 t) from by
    unfold Dat.leavesExact; rw [idle8, decide_eq_false h0, (flush0_8 t).mpr h1]; rfl, after8]
  have hz : t.val ≠ 0 := fun h => h0 (by rw [h])
  rw [maxAt_next m c t h0, PhiS_pos m c t.val _ hz]
  simp only [before7 m c t h0, before8 m c t h0]
  iintro ⟨⟨⟨⟨%e0, %he, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hfull := filled_next m c t _ h0 rfl e0 he
  have hrow := filled_last m c t h1 _ hfull
  iapply (stepC c (grid0.coords t) _ _ _ _ _ _ _ _ _ _ _ _ _ _ _ _ _ _ _ _ _ _ (fun h => h0 ((cond1_iff t).mp h)) ((cond2_iff t).mpr h1) (iblk m c 0 t) (iblk m c 1 t) (iblk m c 2 t) (iblk m c 3 t) (iblk m c 4 t) _ _ (rowCodes m c t) (rowScale m c t) e0 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  rw [show hPut (grid0.coords t) e0 (hTile (rowCodes m c t) (rowScale m c t) (iblk m c 1 t) (iblk m c 2 t) (iblk m c 3 t) (iblk m c 4 t)) = hRow m c t from hrow]
  iintro ⟨H0, H1, H2, H3, H4, H5, H6, H7, H8, HS0, HS1⟩
  isplitl [HS0 HS1 Hg]
  · isplitl [HS0 HS1]
    · isplitl [HS0]
      · iexists _; isplitr; swap; · iexact HS0
        ipureintro; exact hrow ▸ hfull
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h1 : t.val % 37 = 36
  · exact sound_last m c t h1
  by_cases h0 : t.val % 37 = 0
  · exact sound_first m c t h0 h1
  exact sound_middle m c t h0 h1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_forget m c _ _

/-! ## The run -/

set_option backward.isDefEq.respectTransparency.types false in
/-- Every execution of the program ends, every array of the pipeline at what the library computes from the proof data,
    every other buffer as it was found, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Run.KernelFrame.lean ====
/-
The kernel as it is run and the kernel as it is read over the reals are one and the same program
text, so the frame claim proved for the second is the frame claim for the first.
-/
module

public import proofs.«01_k».proof.Proof.Run.Frame
public import proofs.«01_k».proof.Proof.Gen.Kernel
public import proofs.«01_k».proof.Kernel

@[expose] public section

set_option maxRecDepth 65536

noncomputable section

namespace Cert.Kernel.Run

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The bodies of the two programs agree. -/
theorem body_eq : cc0__body (F := F) = Cert.KernelIdeal.cc0__body (F := F) := rfl

/-- Their body tables agree. -/
theorem defs₀_eq : defs₀ (F := F) = Cert.KernelIdeal.defs₀ (F := F) := by
  unfold defs₀ Cert.KernelIdeal.defs₀
  refine congrArg Defs.onTc ?_
  funext ℓ x
  match ℓ, x with
  | 0, (t, s) => rfl

/-- Their procedure tables agree. -/
theorem defs_eq : defs (F := F) = Cert.KernelIdeal.defs (F := F) :=
  congrArg (Pipeline.defs (pcfgs (F := F))) defs₀_eq

/-- Their main programs agree. -/
theorem main_eq : main (F := F) = Cert.KernelIdeal.main (F := F) := rfl

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Run.frame m ρ

end Cert.Kernel.Run

end
-- ==== Proof.Value.Scalar.lean ====
/-
The power-of-two scale of one row, as the kernel computes it and as the reference computes it, and
that the two agree at every row maximum.

The kernel finds the exponent field of `m = a / 448` by comparing `m` with the powers of two in a
binary search and builds the scale and its inverse as words; the reference takes a logarithm, rounds
it down and raises two to the result.
-/
module

public import Idealize.ShloMosaic.PureOps.Ideal
public import Mathlib.Analysis.SpecialFunctions.Log.Basic
public import Mathlib.Analysis.SpecialFunctions.Pow.Real

@[expose] public section

noncomputable section

namespace Cert.Scalar

open Idealize.ShloMosaic

/-! ## The two computations -/

/-- One step of the search: add `bit` to the field found so far if `m` reaches the power of two whose
    field that is. -/
def step (m : Ideal .f32) (bit b : BitVec 32) : BitVec 32 :=
  Scalar.select (FloatOps.cmpf .oge m (FloatOps.ofBits .f32 (IntOp.shli .vector (IntOp.addi b bit) 23#32)))
    (IntOp.addi b bit) b

/-- The first five steps of the search. -/
def field₅ (m : Ideal .f32) : BitVec 32 :=
  step m 8#32 (step m 16#32 (step m 32#32 (step m 64#32 (step m 128#32 0#32))))

/-- The exponent field of `m`. -/
def field (m : Ideal .f32) : BitVec 32 :=
  step m 1#32 (step m 2#32 (step m 4#32 (field₅ m)))

/-- The field as it is read back out of the word it was placed in. -/
def readField (b : BitVec 32) : BitVec 32 :=
  IntOp.andi (IntOp.shrsi .vector (IntOp.shli .vector b 23#32) 23#32) 255#32

/-- The kernel's exponent from a field, `z` saying whether the row maximum is zero. -/
def expWord (f : BitVec 32) (z : BitVec 1) : BitVec 32 :=
  Scalar.select (IntOp.ori (IntOp.ori (IntOp.cmpi .eq f 0#32) (IntOp.cmpi .eq f 255#32)) z) 0#32 (IntOp.subi f 126#32)

/-- The word of the kernel's scale. -/
def scaleWord (e : BitVec 32) : BitVec 32 :=
  Scalar.select (IntOp.cmpi .sge (IntOp.addi 127#32 e) 255#32) 2139095040#32 (IntOp.shli .vector (IntOp.addi 127#32 e) 23#32)

/-- The word of the kernel's inverse scale. -/
def invWord (e : BitVec 32) : BitVec 32 :=
  Scalar.select (IntOp.cmpi .sle (IntOp.subi 127#32 e) 0#32) 0#32 (IntOp.shli .vector (IntOp.subi 127#32 e) 23#32)

/-- A row maximum over 448, as both programs form it. -/
def over (a : Ideal .f32) : Ideal .f32 := FloatOps.mulf a (Scalar.ofBits .f32 0x3B124925#32)

/-- The kernel's exponent of a row maximum. -/
def kExp (a : Ideal .f32) : BitVec 32 :=
  expWord (readField (field (over a))) (FloatOps.cmpf .oeq a (Scalar.ofBits .f32 0x00000000#32))

/-- The kernel's scale of a row maximum. -/
def kScale (a : Ideal .f32) : Ideal .f32 := FloatOps.ofBits .f32 (scaleWord (kExp a))

/-- The kernel's inverse scale of a row maximum. -/
def kInv (a : Ideal .f32) : Ideal .f32 := FloatOps.ofBits .f32 (invWord (kExp a))

/-- The reference's exponent of a row maximum. -/
def rExp (a : Ideal .f32) : Ideal .f32 :=
  Scalar.select (FloatOps.cmpf .oeq a (Scalar.ofBits .f32 0x00000000#32)) (Scalar.ofBits .f32 0x00000000#32)
    (Scalar.select
      (IntOp.andi (FloatOps.cmpf .oge (over a) (Scalar.ofBits .f32 0x00800000#32))
        (FloatOps.cmpf .olt (over a) (Scalar.ofBits .f32 0x7F800000#32)))
      (FloatOps.addf (FloatOps.floor (FloatOps.divf (FloatOps.log (over a)) (FloatOps.log (Scalar.ofBits .f32 0x40000000#32))))
        (Scalar.ofBits .f32 0x3F800000#32))
      (Scalar.ofBits .f32 0x00000000#32))

/-- The reference's scale from its exponent. -/
def rScaleOf (e : Ideal .f32) : Ideal .f32 :=
  Scalar.select (FloatOps.cmpf .ogt e (Scalar.ofBits .f32 0x42FE0000#32)) (Scalar.ofBits .f32 0x7F800000#32) (FloatOps.exp2 e)

/-- The reference's inverse scale from its exponent. -/
def rInvOf (e : Ideal .f32) : Ideal .f32 :=
  Scalar.select (FloatOps.cmpf .olt (FloatOps.subf (Scalar.ofBits .f32 0x00000000#32) e) (Scalar.ofBits .f32 0xC2FC0000#32))
    (Scalar.ofBits .f32 0x00000000#32) (FloatOps.exp2 (FloatOps.subf (Scalar.ofBits .f32 0x00000000#32) e))

/-! ## Words of powers of two -/

/-- What the word with exponent field `n` and nothing else denotes. -/
def thr (n : ℕ) : EReal := Ideal.ofBits .f32 (BitVec.ofNat 32 (n * 2 ^ 23))

theorem word_fields : ∀ n : Fin 256, (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by
  decide +kernel

theorem ofBits_f32 (b : BitVec 32) : Ideal.ofBits .f32 b = Ideal.ieee 8 23 b := rfl

theorem thr_normal (n : ℕ) (h0 : 1 ≤ n) (h1 : n ≤ 254) : thr n = (((2 : ℝ) ^ ((n : ℤ) - 127) : ℝ) : EReal) := by
  obtain ⟨e0, e1, e2⟩ := word_fields ⟨n, by omega⟩
  simp only at e0 e1 e2
  unfold thr
  rw [ofBits_f32]
  unfold Ideal.ieee
  simp only [Nat.reduceAdd, e0, e1, e2]
  rw [if_neg (by omega), if_neg (by omega)]
  congr 1
  have h2 : ((2 : ℝ) ^ 23) * (2 : ℝ) ^ (((n : ℤ) - 127) - 23) = (2 : ℝ) ^ ((n : ℤ) - 127) := by
    rw [zpow_sub₀ (by norm_num) ((n : ℤ) - 127) 23]
    norm_num
    ring
  rw [← h2]
  norm_num

theorem thr_top : thr 255 = ⊤ := by
  obtain ⟨e0, e1, e2⟩ := word_fields ⟨255, by omega⟩
  simp only at e0 e1 e2
  unfold thr
  rw [ofBits_f32]
  unfold Ideal.ieee
  simp only [Nat.reduceAdd, e0, e1, e2]
  norm_num

theorem thr_zero : thr 0 = 0 := by
  obtain ⟨e0, e1, e2⟩ := word_fields ⟨0, by omega⟩
  simp only at e0 e1 e2
  unfold thr
  rw [ofBits_f32]
  unfold Ideal.ieee
  simp only [Nat.reduceAdd, e0, e1, e2]
  norm_num

theorem c_zero : (Scalar.ofBits .f32 0x00000000#32 : Ideal .f32) = (0 : EReal) := thr_zero
theorem c_tiny : (Scalar.ofBits .f32 0x00800000#32 : Ideal .f32) = thr 1 := rfl
theorem c_inf : (Scalar.ofBits .f32 0x7F800000#32 : Ideal .f32) = (⊤ : EReal) := thr_top
theorem c_one : (Scalar.ofBits .f32 0x3F800000#32 : Ideal .f32) = ((1 : ℝ) : EReal) :=
  (thr_normal 127 (by norm_num) (by norm_num)).trans (by norm_num)
theorem c_two : (Scalar.ofBits .f32 0x40000000#32 : Ideal .f32) = ((2 : ℝ) : EReal) :=
  (thr_normal 128 (by norm_num) (by norm_num)).trans (by norm_num)
theorem c_127 : (Scalar.ofBits .f32 0x42FE0000#32 : Ideal .f32) = ((127 : ℝ) : EReal) := by
  refine (ofBits_f32 _).trans ?_
  unfold Ideal.ieee
  simp [-EReal.coe_mul, -EReal.coe_neg]
  norm_num [-EReal.coe_mul, -EReal.coe_neg]
theorem c_126 : (Scalar.ofBits .f32 0xC2FC0000#32 : Ideal .f32) = ((-126 : ℝ) : EReal) := by
  refine (ofBits_f32 _).trans ?_
  unfold Ideal.ieee
  simp [-EReal.coe_mul, -EReal.coe_neg]
  norm_num [-EReal.coe_mul, -EReal.coe_neg]

/-! ## Comparisons and selects at the extended reals -/

theorem sel_oge {α : Type} (x y : Ideal .f32) (p q : α) : Scalar.select (FloatOps.cmpf .oge x y) p q = if (y : EReal) ≤ x then p else q := by
  show (if BitVec.ofBool (decide ((y : EReal) ≤ x)) = 1#1 then p else q) = _
  by_cases h : (y : EReal) ≤ x <;> simp [h]

theorem sel_ogt {α : Type} (x y : Ideal .f32) (p q : α) : Scalar.select (FloatOps.cmpf .ogt x y) p q = if (y : EReal) < x then p else q := by
  show (if BitVec.ofBool (decide ((y : EReal) < x)) = 1#1 then p else q) = _
  by_cases h : (y : EReal) < x <;> simp [h]

theorem sel_olt {α : Type} (x y : Ideal .f32) (p q : α) : Scalar.select (FloatOps.cmpf .olt x y) p q = if (x : EReal) < y then p else q := by
  show (if BitVec.ofBool (decide ((x : EReal) < y)) = 1#1 then p else q) = _
  by_cases h : (x : EReal) < y <;> simp [h]

theorem cmp_oeq (x y : Ideal .f32) : (FloatOps.cmpf .oeq x y : BitVec 1) = if (x : EReal) = y then 1#1 else 0#1 := by
  show BitVec.ofBool (decide ((x : EReal) = y)) = _
  by_cases h : (x : EReal) = y <;> simp [h]

theorem sel_between {α : Type} (x y z : Ideal .f32) (p q : α) :
    Scalar.select (IntOp.andi (FloatOps.cmpf .oge x y) (FloatOps.cmpf .olt x z)) p q
      = if (y : EReal) ≤ x ∧ (x : EReal) < z then p else q := by
  show (if BitVec.ofBool (decide ((y : EReal) ≤ x)) &&& BitVec.ofBool (decide ((x : EReal) < z)) = 1#1 then p else q) = _
  by_cases h : (y : EReal) ≤ x <;> by_cases h' : (x : EReal) < z <;> simp [h, h']

/-! ## The search -/

/-- What the search knows when the field lies within `w` above `n`. -/
def Within (m : EReal) (n w : ℕ) : Prop :=
  n + w ≤ 256 ∧ (n = 0 ∨ thr n ≤ m) ∧ (n + w = 256 ∨ m < thr (n + w))

theorem shl_field (n : ℕ) : IntOp.shli .vector (BitVec.ofNat 32 n) 23#32 = BitVec.ofNat 32 (n * 2 ^ 23) := by
  unfold IntOp.shli
  rw [if_pos (by decide)]
  apply BitVec.eq_of_toNat_eq
  simp [Nat.shiftLeft_eq]

theorem step_within (m : EReal) (n k : ℕ) (h : Within m n (k + k)) :
    ∃ n', step m (BitVec.ofNat 32 k) (BitVec.ofNat 32 n) = BitVec.ofNat 32 n' ∧ Within m n' k := by
  obtain ⟨h1, h2, h3⟩ := h
  have ha : IntOp.addi (BitVec.ofNat 32 n) (BitVec.ofNat 32 k) = BitVec.ofNat 32 (n + k) := (BitVec.ofNat_add ..).symm
  unfold step
  rw [ha, shl_field, sel_oge]
  by_cases ht : thr (n + k) ≤ m
  · exact ⟨n + k, if_pos ht, by omega, Or.inr ht, by rw [Nat.add_assoc]; exact h3⟩
  · exact ⟨n, if_neg ht, by omega, h2, Or.inr (not_le.mp ht)⟩

theorem field_spec (m : EReal) :
    ∃ n : ℕ, field m = BitVec.ofNat 32 n ∧ n ≤ 255 ∧ (n = 0 ∨ thr n ≤ m) ∧ (n = 255 ∨ m < thr (n + 1)) := by
  have h : Within m 0 (128 + 128) := ⟨by omega, Or.inl rfl, Or.inl rfl⟩
  obtain ⟨n₁, e₁, h⟩ := step_within m 0 128 h
  obtain ⟨n₂, e₂, h⟩ := step_within m n₁ 64 h
  obtain ⟨n₃, e₃, h⟩ := step_within m n₂ 32 h
  obtain ⟨n₄, e₄, h⟩ := step_within m n₃ 16 h
  obtain ⟨n₅, e₅, h⟩ := step_within m n₄ 8 h
  obtain ⟨n₆, e₆, h⟩ := step_within m n₅ 4 h
  obtain ⟨n₇, e₇, h⟩ := step_within m n₆ 2 h
  obtain ⟨n₈, e₈, h1, h2, h3⟩ := step_within m n₇ 1 h
  refine ⟨n₈, ?_, by omega, h2, ?_⟩
  · unfold field field₅
    rw [e₁, e₂, e₃, e₄, e₅, e₆, e₇, e₈]
  · rcases h3 with h3 | h3
    · exact Or.inl (by omega)
    · exact Or.inr h3

/-! ## The exponents agree -/

theorem expWord_in : ∀ n : Fin 256, 1 ≤ n.val → n.val ≤ 254 →
    expWord (readField (BitVec.ofNat 32 n.val)) 0#1 = BitVec.ofInt 32 ((n.val : ℤ) - 126) := by
  decide +kernel

theorem expWord_out : ∀ n : Fin 256, n.val = 0 ∨ n.val = 255 → expWord (readField (BitVec.ofNat 32 n.val)) 0#1 = 0#32 := by
  decide +kernel

theorem expWord_zero : ∀ n : Fin 256, expWord (readField (BitVec.ofNat 32 n.val)) 1#1 = 0#32 := by
  decide +kernel

/-- A number that reaches a power of two has at least that exponent as the floor of its logarithm to
    base two. -/
theorem le_floor_log (r : ℝ) (e : ℤ) (h0 : (2 : ℝ) ^ e ≤ r) : e ≤ ⌊Real.log r * (Real.log 2)⁻¹⌋ := by
  have hl : 0 < Real.log 2 := Real.log_pos (by norm_num)
  have hp : (0 : ℝ) < (2 : ℝ) ^ e := zpow_pos (by norm_num) e
  rw [← div_eq_mul_inv, Int.le_floor, le_div_iff₀ hl, ← Real.log_zpow]
  exact Real.log_le_log hp h0

/-- A number below a power of two has a smaller exponent. -/
theorem floor_log_lt (r : ℝ) (e : ℤ) (hr : 0 < r) (h1 : r < (2 : ℝ) ^ e) : ⌊Real.log r * (Real.log 2)⁻¹⌋ < e := by
  have hl : 0 < Real.log 2 := Real.log_pos (by norm_num)
  rw [← div_eq_mul_inv, Int.floor_lt, div_lt_iff₀ hl, ← Real.log_zpow]
  exact Real.log_lt_log hr h1

/-- The reference's exponent of an `m` whose field is `n`: the kernel's, unless `n` is the largest
    finite field, where it may be larger. -/
theorem log_floor (m : EReal) (n : ℕ) (h0 : 1 ≤ n) (h1 : n ≤ 254) (hl : thr n ≤ m) (hu : m < thr (n + 1)) :
    ∃ e : ℤ, (FloatOps.addf (FloatOps.floor (FloatOps.divf (FloatOps.log (F := Ideal) (φ := .f32) m) (FloatOps.log (Scalar.ofBits .f32 0x40000000#32))))
        (Scalar.ofBits .f32 0x3F800000#32) : Ideal .f32) = ((e : ℝ) : EReal)
      ∧ (n : ℤ) - 126 ≤ e ∧ (n ≤ 253 → e = (n : ℤ) - 126) := by
  rw [thr_normal n h0 h1] at hl
  have hu' : m < ⊤ := lt_of_lt_of_le hu le_top
  induction m using EReal.rec with
  | bot => exact absurd hl (by simp)
  | top => exact absurd hu' (by simp)
  | coe r =>
    have hl' : (2 : ℝ) ^ ((n : ℤ) - 127) ≤ r := by exact_mod_cast hl
    have hp : (0 : ℝ) < (2 : ℝ) ^ ((n : ℤ) - 127) := zpow_pos (by norm_num) _
    have hr : 0 < r := lt_of_lt_of_le hp hl'
    have h2 : Real.log 2 ≠ 0 := (Real.log_pos (by norm_num)).ne'
    refine ⟨⌊Real.log r * (Real.log 2)⁻¹⌋ + 1, ?_, ?_, ?_⟩
    · rw [c_two, c_one]
      show Ideal.liftRound Int.floor (Ideal.div (Ideal.log (r : EReal)) (Ideal.log ((2 : ℝ) : EReal))) + ((1 : ℝ) : EReal) = _
      have e1 : Ideal.log (r : EReal) = ((Real.log r : ℝ) : EReal) := if_neg (not_le.mpr hr)
      have e2 : Ideal.log ((2 : ℝ) : EReal) = ((Real.log 2 : ℝ) : EReal) := if_neg (by norm_num)
      rw [e1, e2]
      unfold Ideal.div
      rw [if_neg (by exact_mod_cast h2), ← EReal.coe_inv, ← EReal.coe_mul]
      show ((⌊Real.log r * (Real.log 2)⁻¹⌋ : ℝ) : EReal) + ((1 : ℝ) : EReal) = _
      rw [← EReal.coe_add]
      push_cast
      rfl
    · have := le_floor_log r _ hl'
      omega
    · intro h3
      have a := le_floor_log r _ hl'
      rw [thr_normal (n + 1) (by omega) (by omega)] at hu
      have hu'' : r < (2 : ℝ) ^ (((n + 1 : ℕ) : ℤ) - 127) := by exact_mod_cast hu
      have b := floor_log_lt r _ hr hu''
      push_cast at b
      omega

/-! ## The scales agree -/

theorem scaleWord_at : ∀ n : Fin 256, 1 ≤ n.val → n.val ≤ 253 →
    scaleWord (BitVec.ofInt 32 ((n.val : ℤ) - 126)) = BitVec.ofNat 32 ((n.val + 1) * 2 ^ 23) := by
  decide +kernel

theorem scaleWord_last : scaleWord (BitVec.ofInt 32 ((254 : ℤ) - 126)) = BitVec.ofNat 32 (255 * 2 ^ 23) := by
  decide +kernel

theorem scaleWord_one : scaleWord 0#32 = BitVec.ofNat 32 (127 * 2 ^ 23) := by
  decide +kernel

theorem invWord_at : ∀ n : Fin 256, 1 ≤ n.val → n.val ≤ 252 →
    invWord (BitVec.ofInt 32 ((n.val : ℤ) - 126)) = BitVec.ofNat 32 ((253 - n.val) * 2 ^ 23) := by
  decide +kernel

theorem invWord_last : ∀ n : Fin 256, 253 ≤ n.val → n.val ≤ 254 →
    invWord (BitVec.ofInt 32 ((n.val : ℤ) - 126)) = BitVec.ofNat 32 (0 * 2 ^ 23) := by
  decide +kernel

theorem invWord_one : invWord 0#32 = BitVec.ofNat 32 (127 * 2 ^ 23) := by
  decide +kernel

theorem exp2_int (e : ℤ) : Ideal.exp2 ((e : ℝ) : EReal) = (((2 : ℝ) ^ e : ℝ) : EReal) := by
  show ((Real.rpow 2 (e : ℝ) : ℝ) : EReal) = _
  exact congrArg _ (Real.rpow_intCast 2 e)

/-- The reference's scale at an integer exponent. -/
theorem rScaleOf_int (e : ℤ) : rScaleOf (((e : ℝ) : EReal) : Ideal .f32) = if 127 < e then ⊤ else (((2 : ℝ) ^ e : ℝ) : EReal) := by
  unfold rScaleOf
  rw [sel_ogt, c_127, c_inf]
  have : (((127 : ℝ) : EReal) < ((e : ℝ) : EReal)) ↔ 127 < e := by
    rw [EReal.coe_lt_coe_iff]; exact_mod_cast Iff.rfl
  simp only [this]
  exact if_congr Iff.rfl rfl (exp2_int e)

/-- The reference's inverse scale at an integer exponent. -/
theorem rInvOf_int (e : ℤ) : rInvOf (((e : ℝ) : EReal) : Ideal .f32) = if 126 < e then 0 else (((2 : ℝ) ^ (-e) : ℝ) : EReal) := by
  unfold rInvOf
  have hs : (FloatOps.subf (Scalar.ofBits .f32 0x00000000#32) (((e : ℝ) : EReal) : Ideal .f32) : Ideal .f32) = (((-e : ℤ) : ℝ) : EReal) := by
    rw [c_zero]
    show (0 : EReal) - ((e : ℝ) : EReal) = _
    rw [zero_sub, ← EReal.coe_neg]
    push_cast
    rfl
  rw [hs, sel_olt, c_126, c_zero]
  have : ((((-e : ℤ) : ℝ) : EReal) < ((-126 : ℝ) : EReal)) ↔ 126 < e := by
    rw [EReal.coe_lt_coe_iff]
    constructor
    · intro h
      have : (-e : ℤ) < -126 := by exact_mod_cast h
      omega
    · intro h
      have : (-e : ℤ) < -126 := by omega
      exact_mod_cast this
  simp only [this]
  exact if_congr Iff.rfl rfl (exp2_int (-e))

/-- Either both exponents are zero, or the row maximum's field is a finite one and both exponents
    are read off it. -/
theorem exps (a : Ideal .f32) :
    (kExp a = 0#32 ∧ rExp a = (((0 : ℤ) : ℝ) : EReal))
    ∨ ∃ (n : ℕ) (e : ℤ), 1 ≤ n ∧ n ≤ 254 ∧ kExp a = BitVec.ofInt 32 ((n : ℤ) - 126) ∧ rExp a = ((e : ℝ) : EReal)
        ∧ (n : ℤ) - 126 ≤ e ∧ (n ≤ 253 → e = (n : ℤ) - 126) := by
  obtain ⟨n, hf, h255, hl, hu⟩ := field_spec (over a)
  have zr : (0 : EReal) = (((0 : ℤ) : ℝ) : EReal) := by simp
  unfold kExp rExp
  rw [hf, c_zero, cmp_oeq]
  by_cases ha : (a : EReal) = 0
  · left
    rw [if_pos ha]
    exact ⟨expWord_zero ⟨n, by omega⟩, zr⟩
  rw [if_neg ha]
  have hs : ∀ p q : Ideal .f32, Scalar.select 0#1 p q = q := fun _ _ => rfl
  rw [hs, sel_between, c_tiny, c_inf]
  by_cases h0 : n = 0 ∨ n = 255
  · left
    refine ⟨expWord_out ⟨n, by omega⟩ h0, ?_⟩
    rw [if_neg, zr]
    rintro ⟨b1, b2⟩
    rcases h0 with h0 | h0
    · subst h0
      rcases hu with hu | hu
      · omega
      · exact absurd b1 (not_le.mpr hu)
    · subst h0
      rcases hl with hl | hl
      · omega
      · rw [thr_top] at hl
        exact absurd b2 (not_lt.mpr hl)
  · right
    have h1 : 1 ≤ n := by omega
    have h2 : n ≤ 254 := by omega
    have hl' := hl.resolve_left (by omega)
    have hu' := hu.resolve_left (by omega)
    obtain ⟨e, he, h3, h4⟩ := log_floor (over a) n h1 h2 hl' hu'
    refine ⟨n, e, h1, h2, expWord_in ⟨n, by omega⟩ h1 h2, ?_, h3, h4⟩
    rw [if_pos, he]
    refine ⟨le_trans ?_ hl', lt_of_lt_of_le hu' le_top⟩
    rw [thr_normal 1 le_rfl (by norm_num), thr_normal n h1 h2, EReal.coe_le_coe_iff]
    exact zpow_le_zpow_right₀ (by norm_num) (by omega)

/-- The kernel's scale is the reference's. -/
theorem scale_eq (a : Ideal .f32) : kScale a = rScaleOf (rExp a) := by
  unfold kScale
  rcases exps a with ⟨hk, hr⟩ | ⟨n, e, h1, h2, hk, hr, h3, h4⟩
  · rw [hk, hr, rScaleOf_int, scaleWord_one, if_neg (by norm_num)]
    exact (thr_normal 127 (by norm_num) (by norm_num)).trans (by norm_num)
  · rw [hk, hr, rScaleOf_int]
    by_cases h : n = 254
    · subst h
      rw [if_pos (by omega)]
      exact (congrArg (Ideal.ofBits .f32) scaleWord_last).trans thr_top
    · have he := h4 (by omega)
      rw [if_neg (by omega), scaleWord_at ⟨n, by omega⟩ h1 (by simp only; omega)]
      refine (thr_normal (n + 1) (by omega) (by omega)).trans ?_
      rw [he]
      congr 2
      push_cast
      ring

/-- The kernel's inverse scale is the reference's. -/
theorem inv_eq (a : Ideal .f32) : kInv a = rInvOf (rExp a) := by
  unfold kInv
  rcases exps a with ⟨hk, hr⟩ | ⟨n, e, h1, h2, hk, hr, h3, h4⟩
  · rw [hk, hr, rInvOf_int, invWord_one, if_neg (by norm_num)]
    exact (thr_normal 127 (by norm_num) (by norm_num)).trans (by norm_num)
  · rw [hk, hr, rInvOf_int]
    by_cases h : 253 ≤ n
    · rw [if_pos (by omega), invWord_last ⟨n, by omega⟩ h h2]
      exact thr_zero
    · have he := h4 (by omega)
      rw [if_neg (by omega), invWord_at ⟨n, by omega⟩ h1 (by simp only; omega)]
      refine (thr_normal (253 - n) (by omega) (by omega)).trans ?_
      rw [he]
      congr 2
      omega

end Cert.Scalar

end
-- ==== Proof.Value.Rows.lean ====
/-
What both programs compute on one row, as plain functions of the row's numbers, and how the vector
operations that work along a row read at one index.
-/
module

public import proofs.«01_k».proof.Proof.Value.Scalar
public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.Rows

open Idealize.ShloMosaic Idealize.ShloMosaic.ValueIdx Cert.Scalar
open scoped BigOperators

/-! ## One row -/

/-- The greatest absolute value of a row. -/
def rowMax {n : ℕ} (f : Fin n → Ideal .f32) : Ideal .f32 :=
  (Finset.univ : Finset (Fin n)).fold max (FloatOps.ofBits .f32 0xFF800000#32) (fun k => FloatOps.absf (f k))

/-- The code of a number under an inverse scale: their product, clipped to the range of the codes. -/
def code (v inv : Ideal .f32) : Ideal .fp8e4m3 :=
  FloatOps.minimumf (F := Ideal) (φ := .f32) (Scalar.ofBits .f32 0x43E00000#32)
    (FloatOps.maximumf (F := Ideal) (φ := .f32) (Scalar.ofBits .f32 0xC3E00000#32) (FloatOps.mulf v inv))

/-- The scale of a row with greatest absolute value `a`. -/
def scale (a : Ideal .f32) : Ideal .f32 := rScaleOf (rExp a)

/-- The inverse scale of a row with greatest absolute value `a`. -/
def inv (a : Ideal .f32) : Ideal .f32 := rInvOf (rExp a)

/-- One number of the projection: the product of a row of codes and a column of weight codes, times
    the row's scale, times the column's. -/
def proj (xc w : Fin 3584 → Ideal .fp8e4m3) (xs s : Ideal .f32) : Ideal .f32 :=
  FloatOps.mulf (F := Ideal) (φ := .f32)
    (FloatOps.mulf (F := Ideal) (φ := .f32) (Ideal.ofBits .f32 0x00000000#32 + ∑ k, ((xc k : EReal) * (w k : EReal)) : EReal) xs) s

/-- One number of h, from its gate and its up number. -/
def act (g u : Ideal .f32) : Ideal .f32 := FloatOps.mulf (FloatOps.mulf g (FloatOps.logistic g)) u

/-! ## Vector operations at an index -/

section
variable {α : Type} {M K N : ℕ}

/-- A vector seen as a column. -/
theorem colCast (v : (⟨1, ![M]⟩ : Shape).Idx → α) (h : (⟨1, ![M]⟩ : Shape).ShapeCasts ⟨2, ![M, 1]⟩) (i : (⟨2, ![M, 1]⟩ : Shape).Idx) :
    shapeCast ⟨2, ![M, 1]⟩ v h i = v (ix1 (i 0)) := by
  refine shapeCast_apply v h i (ix1 (i 0)) ?_
  rw [Shape.rowMajor_val_one, Shape.rowMajor_val_two]
  have : (i 1).val < 1 := (i 1).isLt
  show (i 0).val = (i 0).val * 1 + (i 1).val
  omega

/-- A column repeated along the rows. -/
theorem bcastCol (v : (⟨2, ![M, 1]⟩ : Shape).Idx → α) (h : (⟨2, ![M, 1]⟩ : Shape).Broadcasts ⟨2, ![M, N]⟩) (j : (⟨2, ![M, N]⟩ : Shape).Idx) :
    broadcastTo ⟨2, ![M, N]⟩ v h j = v (ix2 (j 0) 0) := by
  refine broadcastTo_apply v h j (ix2 (j 0) 0) fun a => ?_
  match a with
  | ⟨0, _⟩ =>
    show (j 0).val = if M = 1 then 0 else (j 0).val
    have : (j 0).val < M := (j 0).isLt
    split <;> omega
  | ⟨1, _⟩ => rfl

/-- A row repeated down the columns. -/
theorem bcastRow (v : (⟨2, ![1, N]⟩ : Shape).Idx → α) (h : (⟨2, ![1, N]⟩ : Shape).Broadcasts ⟨2, ![M, N]⟩) (j : (⟨2, ![M, N]⟩ : Shape).Idx) :
    broadcastTo ⟨2, ![M, N]⟩ v h j = v (ix2 0 (j 1)) := by
  refine broadcastTo_apply v h j (ix2 0 (j 1)) fun a => ?_
  match a with
  | ⟨0, _⟩ => rfl
  | ⟨1, _⟩ =>
    show (j 1).val = if N = 1 then 0 else (j 1).val
    have : (j 1).val < N := (j 1).isLt
    split <;> omega

end

/-- The reduction along the rows of the absolute values. -/
theorem reduce_abs {M N : ℕ} (v : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (r : Fin M) :
    multiReduction .maximumf [1] ⟨1, ![M]⟩ (absf v) 0xFF800000#32 h hφ hacc (ix1 r) = rowMax (fun k => v (ix2 r k)) := by
  rw [Ideal.multiReduction_maximumf_single]
  refine congrArg (fun g => (Finset.univ : Finset (Fin N)).fold max (FloatOps.ofBits .f32 0xFF800000#32) g) (funext fun k => ?_)
  have : h.lift (ix1 r) k = ix2 r k := by
    funext a
    match a with
    | ⟨0, _⟩ => rfl
    | ⟨1, _⟩ => rfl
  exact congrArg (fun i => FloatOps.absf (v i)) this

/-- A product of two matrices, from zero, one number of it. -/
theorem matmul_at {M K N : ℕ} (lhs : FVec Ideal ⟨2, ![M, K]⟩ .fp8e4m3) (rhs : FVec Ideal ⟨2, ![K, N]⟩ .fp8e4m3) (j : (⟨2, ![M, N]⟩ : Shape).Idx) :
    FloatOps.matmul (DotDims.plain M K N) none lhs rhs (constant ⟨2, ![M, N]⟩ .f32 0x00000000#32) j
      = (Ideal.ofBits .f32 0x00000000#32 + ∑ k : Fin K, lhs (ix2 (j 0) k) * rhs (ix2 k (j 1)) : EReal) := by
  rw [eq_ix2 j]
  exact Ideal.matmul_plain_apply none lhs rhs _ _ _

/-! ## The greatest of a row, piece by piece -/

theorem rowMax_eq_sup {n : ℕ} (f : Fin n → Ideal .f32) :
    rowMax f = (Finset.univ : Finset (Fin n)).sup (fun k => (max (f k) (-(f k)) : EReal)) := by
  have e : (FloatOps.ofBits .f32 0xFF800000#32 : Ideal .f32) = (⊥ : EReal) := by
    refine (ofBits_f32 _).trans ?_
    simp [Ideal.ieee]
  unfold rowMax
  rw [e]
  rfl

theorem rowMax_le {n : ℕ} (f : Fin n → Ideal .f32) (b : EReal) : rowMax f ≤ b ↔ ∀ k, (max (f k) (-(f k)) : EReal) ≤ b := by
  rw [rowMax_eq_sup, Finset.sup_le_iff]
  simp

/-- An absolute value is not negative. -/
theorem abs_nonneg (x : EReal) : 0 ≤ max x (-x) := by
  rcases le_total 0 x with h | h
  · exact le_max_of_le_left h
  · exact le_max_of_le_right (EReal.neg_nonneg.mpr h)

end Cert.Rows

end
-- ==== Proof.Value.KernelTerms.lean ====
/-
The terms of one grid step of the kernel, each read at one index as a function of one row.
-/
module

public import proofs.«01_k».proof.Proof.Run.Terms
public import proofs.«01_k».proof.Proof.Value.Rows

@[expose] public section

set_option maxRecDepth 16384

noncomputable section

namespace Cert.KernelIdeal.Value

open Cert.KernelIdeal Cert.KernelIdeal.Gen Cert.KernelIdeal.Run Cert.Rows Cert.Scalar
open Idealize.ShloMosaic Idealize.ShloMosaic.TcCoe Idealize.ShloMosaic.ValueIdx

variable [Cert.KernelIdeal.Facts]

theorem pay4_eq (x : Vec Ideal S512x3584 .bf16) : k0_pay4 x = x := by
  unfold k0_pay4
  exact shapeCast_self (s := S512x3584) x _

/-- The row maxima of a block of x. -/
theorem pay5_at (x : Vec Ideal S512x3584 .bf16) (i : S512x1.Idx) : k0_pay5 x i = rowMax (fun k => x (ix2 (i 0) k)) := by
  unfold k0_pay5
  refine (colCast _ _ i).trans ?_
  refine (reduce_abs (k0_pay4 x) _ _ _ (i 0)).trans ?_
  rw [pay4_eq]

theorem pay6_at (x : Vec Ideal S512x3584 .bf16) (i : S512x1.Idx) : k0_pay6 x i = over (k0_pay5 x i) := by
  have h : ∀ v : FVec Ideal S512x1 .f32, mulf v (broadcast S512x1 (Scalar.ofBits .f32 0x3B124925#32)) i = over (v i) := fun _ => rfl
  exact h (k0_pay5 x)

theorem pay13_at (a : Vec Ideal S512x1 .f32) (i : S512x1.Idx) : k0_pay13 a i = field₅ (over (a i)) := rfl

/-- The first five steps of the search for x are those for h, from the row maxima. -/
theorem pay7_eq (x : Vec Ideal S512x3584 .bf16) : k0_pay7 x = k0_pay13 (k0_pay5 x) := by
  unfold k0_pay7 k0_pay13
  rw [show k0_pay6 x = k0_pay12 (k0_pay5 x) from rfl]

theorem pay8_at (a m : FVec Ideal S512x1 .f32) (b : IVec S512x1 32) (i : S512x1.Idx) :
    k0_pay8 a m b 4#32 i = expWord (readField (step (m i) 1#32 (step (m i) 2#32 (step (m i) 4#32 (b i)))))
      (FloatOps.cmpf .oeq (a i) (Scalar.ofBits .f32 0x00000000#32)) := rfl

theorem pay8_exp (x : Vec Ideal S512x3584 .bf16) (i : S512x1.Idx) :
    k0_pay8 (k0_pay5 x) (k0_pay6 x) (k0_pay7 x) 4#32 i = kExp (rowMax (fun k => x (ix2 (i 0) k))) := by
  rw [pay8_at, pay7_eq, pay13_at]
  rw [pay6_at, pay5_at]
  generalize rowMax (fun k => x (ix2 (i 0) k)) = r
  rfl

/-- The scale of one row of x. -/
theorem xScale_at (x : Vec Ideal S512x3584 .bf16) (i : S512x1.Idx) :
    xScale x i = scale (rowMax (fun k => x (ix2 (i 0) k))) := by
  have h : xScale x i = (FloatOps.ofBits .f32 (scaleWord (k0_pay8 (k0_pay5 x) (k0_pay6 x) (k0_pay7 x) 4#32 i)) : Ideal .f32) := by
    unfold xScale k0_pay9
    generalize k0_pay8 (k0_pay5 x) (k0_pay6 x) (k0_pay7 x) 4#32 = e
    rfl
  rw [h, pay8_exp]
  exact scale_eq (rowMax (fun k => x (ix2 (i 0) k)))

theorem pay23_at (v : FVec Ideal S512x3584 .f32) (e : IVec S512x1 32) (y : S512x3584.Idx) :
    k0_pay23 v (subi (broadcast S512x1 127#32) e) y = code (v y) (broadcastTo S512x3584
      (fun i => (FloatOps.ofBits .f32 (invWord (e i)) : Ideal .f32)) broadcasts_S512x1_S512x3584 y) := rfl

/-- One code of x. -/
theorem xCodes_at (x : Vec Ideal S512x3584 .bf16) (y : S512x3584.Idx) :
    xCodes x y = code (x y) (inv (rowMax (fun k => x (ix2 (y 0) k)))) := by
  unfold xCodes k0_pay10
  refine (pay23_at (k0_pay4 x) (k0_pay8 (k0_pay5 x) (k0_pay6 x) (k0_pay7 x) 4#32) y).trans ?_
  rw [pay4_eq, bcastCol, pay8_exp]
  exact congrArg (code (x y)) (inv_eq (rowMax (fun k => x (ix2 (y 0) k))))

theorem pay12_at (a : Vec Ideal S512x1 .f32) (i : S512x1.Idx) : k0_pay12 a i = over (a i) := rfl

theorem pay14_at (a : Vec Ideal S512x1 .f32) (i : S512x1.Idx) : k0_pay14 a i = IntOp.addi (k0_pay13 a i) 4#32 := rfl

theorem pay15_at (a : Vec Ideal S512x1 .f32) (i : S512x1.Idx) :
    k0_pay15 a i = FloatOps.ofBits .f32 (IntOp.shli .vector (IntOp.addi (k0_pay13 a i) 4#32) 23#32) := rfl

theorem pay16_at (a m : FVec Ideal S512x1 .f32) (b c : IVec S512x1 32) (t : FVec Ideal S512x1 .f32) (i : S512x1.Idx) :
    k0_pay16 a m b c t i = expWord (readField (step (m i) 1#32 (step (m i) 2#32
      (Scalar.select (FloatOps.cmpf .oge (m i) (t i)) (c i) (b i)))))
      (FloatOps.cmpf .oeq (a i) (Scalar.ofBits .f32 0x00000000#32)) := rfl

theorem pay16_exp (a : Vec Ideal S512x1 .f32) (i : S512x1.Idx) :
    k0_pay16 a (k0_pay12 a) (k0_pay13 a) (k0_pay14 a) (k0_pay15 a) i = kExp (a i) := by
  rw [pay16_at, pay14_at, pay15_at, pay13_at, pay12_at]
  rfl

/-- The scale of one row of h. -/
theorem hScale_at (a : Vec Ideal S512x1 .f32) (i : S512x1.Idx) : hScale a i = scale (a i) := by
  have h : hScale a i = (FloatOps.ofBits .f32 (scaleWord (k0_pay16 a (k0_pay12 a) (k0_pay13 a) (k0_pay14 a) (k0_pay15 a) i)) : Ideal .f32) := by
    unfold hScale k0_pay19 k0_pay20 k0_pay17
    generalize k0_pay16 a (k0_pay12 a) (k0_pay13 a) (k0_pay14 a) (k0_pay15 a) = e
    rfl
  rw [h, pay16_exp]
  exact scale_eq (a i)

/-- One code of h. -/
theorem hCodes_at (a : Vec Ideal S512x1 .f32) (v : Vec Ideal S512x9472 .f32) (y : S512x9472.Idx) :
    hCodes a v y = code (v y) (inv (a (ix2 (y 0) 0))) := by
  have h : hCodes a v y = code (v y) (broadcastTo S512x9472
      (fun i => (FloatOps.ofBits .f32 (invWord (k0_pay16 a (k0_pay12 a) (k0_pay13 a) (k0_pay14 a) (k0_pay15 a) i)) : Ideal .f32))
      broadcasts_S512x1_S512x9472 y) := by
    unfold hCodes k0_pay18
    generalize k0_pay16 a (k0_pay12 a) (k0_pay13 a) (k0_pay14 a) (k0_pay15 a) = e
    rfl
  rw [h, bcastCol, pay16_exp]
  exact congrArg (code (v y)) (inv_eq (a (ix2 (y 0) 0)))

theorem dot_plain : dot_S512x3584_S3584x256_S512x256_1_0_0_1_n_n = DotDims.plain 512 3584 256 := rfl

theorem pay25_at (xc : Vec Ideal S512x3584 .fp8e4m3) (xs : Vec Ideal S512x1 .f32) (wg wu : Vec Ideal S3584x256 .fp8e4m3)
    (sg su : Vec Ideal S1x256 .f32) (y : S512x256.Idx) :
    k0_pay25 xc xs wg sg wu su y
      = act (proj (fun k => xc (ix2 (y 0) k)) (fun k => wg (ix2 k (y 1))) (xs (ix2 (y 0) 0)) (sg (ix2 0 (y 1))))
          (proj (fun k => xc (ix2 (y 0) k)) (fun k => wu (ix2 k (y 1))) (xs (ix2 (y 0) 0)) (su (ix2 0 (y 1)))) := by
  have dot : ∀ w : Vec Ideal S3584x256 .fp8e4m3, ∀ s : Vec Ideal S1x256 .f32,
      FloatOps.mulf (FloatOps.mulf
          (matmul (F := Ideal) dot_S512x3584_S3584x256_S512x256_1_0_0_1_n_n none (φ₁ := .fp8e4m3) (φ₂ := .fp8e4m3) xc w (constant S512x256 .f32 0x00000000#32) y)
          (broadcastTo S512x256 xs broadcasts_S512x1_S512x256 y)) (broadcastTo S512x256 s broadcasts_S1x256_S512x256 y)
        = proj (fun k => xc (ix2 (y 0) k)) (fun k => w (ix2 k (y 1))) (xs (ix2 (y 0) 0)) (s (ix2 0 (y 1))) := by
    intro w s
    rw [bcastCol, bcastRow, dot_plain]
    unfold proj
    exact congrArg (fun t : Ideal .f32 => FloatOps.mulf (FloatOps.mulf t _) _) (matmul_at xc w y)
  unfold k0_pay25
  simp only [shapeCast_self]
  rw [← dot wg sg, ← dot wu su]
  rfl

/-- One number of a tile of h. -/
theorem hTile_at (xc : Vec Ideal S512x3584 .fp8e4m3) (xs : Vec Ideal S512x1 .f32) (wg wu : Vec Ideal S3584x256 .fp8e4m3)
    (sg su : Vec Ideal S1x256 .f32) (y : S512x256.Idx) :
    hTile xc xs wg wu sg su y
      = act (proj (fun k => xc (ix2 (y 0) k)) (fun k => wg (ix2 k (y 1))) (xs (ix2 (y 0) 0)) (sg (ix2 0 (y 1))))
          (proj (fun k => xc (ix2 (y 0) k)) (fun k => wu (ix2 k (y 1))) (xs (ix2 (y 0) 0)) (su (ix2 0 (y 1)))) := by
  unfold hTile k0_pay26
  rw [shapeCast_self]
  exact pay25_at ..

/-- The running maximum after one more tile. -/
theorem maxNext_at (a : Vec Ideal S512x1 .f32) (xc : Vec Ideal S512x3584 .fp8e4m3) (xs : Vec Ideal S512x1 .f32)
    (wg wu : Vec Ideal S3584x256 .fp8e4m3) (sg su : Vec Ideal S1x256 .f32) (i : S512x1.Idx) :
    maxNext a xc xs wg wu sg su i = (max (a i) (rowMax (fun k => hTile xc xs wg wu sg su (ix2 (i 0) k))) : EReal) := by
  have h26 : hTile xc xs wg wu sg su = k0_pay25 xc xs wg sg wu su := by
    unfold hTile k0_pay26
    exact shapeCast_self _ _
  rw [h26]
  unfold maxNext k0_pay1
  rw [shapeCast_self]
  refine congrArg (fun t : EReal => max (a i) t) ?_
  refine (colCast _ _ i).trans ?_
  unfold k0_pay27
  exact reduce_abs _ _ _ _ (i 0)

theorem maxZero_at (i : S512x1.Idx) : (maxZero (F := Ideal)) i = (0 : EReal) := by
  unfold maxZero k0_pay24
  rw [shapeCast_self]
  exact c_zero

end Cert.KernelIdeal.Value

end
-- ==== Proof.Value.Result.lean ====
/-
The four results of the layer as functions of the activations, the weight codes and the weight scales:
what both programs leave in their result arrays.
-/
module

public import proofs.«01_k».proof.Proof.Value.Rows

@[expose] public section

noncomputable section

namespace Cert.Result

open Idealize.ShloMosaic Idealize.ShloMosaic.ValueIdx Cert.Rows

variable (X : Vec Ideal ⟨2, ![12288, 3584]⟩ .bf16) (W : Vec Ideal ⟨2, ![3584, 18944]⟩ .fp8e4m3) (S : Vec Ideal ⟨2, ![1, 18944]⟩ .f32)

/-- The column of the weights that makes the gate number of column `c` of h. -/
def gateCol (c : Fin 9472) : Fin 18944 := ⟨c.val, by omega⟩

/-- The column of the weights that makes the up number of column `c` of h. -/
def upCol (c : Fin 9472) : Fin 18944 := ⟨9472 + c.val, by omega⟩

/-- The greatest absolute value of row `r` of x. -/
def xMax (r : Fin 12288) : Ideal .f32 := rowMax (fun k => X (ix2 r k))

/-- The code of one number of x. -/
def xCode (r : Fin 12288) (k : Fin 3584) : Ideal .fp8e4m3 := code (X (ix2 r k)) (inv (xMax X r))

/-- One number of h. -/
def h (r : Fin 12288) (c : Fin 9472) : Ideal .f32 :=
  act (proj (xCode X r) (fun k => W (ix2 k (gateCol c))) (scale (xMax X r)) (S (ix2 0 (gateCol c))))
    (proj (xCode X r) (fun k => W (ix2 k (upCol c))) (scale (xMax X r)) (S (ix2 0 (upCol c))))

/-- The greatest absolute value of row `r` of h. -/
def hMax (r : Fin 12288) : Ideal .f32 := rowMax (h X W S r)

/-- Result 1: the scales of h. -/
def hScales : Vec Ideal ⟨2, ![12288, 1]⟩ .f32 := fun i => scale (hMax X W S (i 0))

/-- Result 2: the codes of h. -/
def hCodes : Vec Ideal ⟨2, ![12288, 9472]⟩ .fp8e4m3 := fun i => code (h X W S (i 0) (i 1)) (inv (hMax X W S (i 0)))

/-- Result 3: the codes of x. -/
def xCodes : Vec Ideal ⟨2, ![12288, 3584]⟩ .fp8e4m3 := fun i => xCode X (i 0) (i 1)

/-- Result 4: the scales of x. -/
def xScales : Vec Ideal ⟨2, ![12288, 1]⟩ .f32 := fun i => scale (xMax X (i 0))

end Cert.Result

end
-- ==== Proof.Value.KernelBlocks.lean ====
/-
What the kernel reads at each grid step, and what it computes there, as parts of the layer's results.
-/
module

public import proofs.«01_k».proof.Proof.Run.Data
public import proofs.«01_k».proof.Proof.Value.KernelTerms
public import proofs.«01_k».proof.Proof.Value.Result
public import Idealize.ShloMosaic.Lib.Pipeline.ValueKit

@[expose] public section

set_option maxRecDepth 16384

noncomputable section

namespace Cert.KernelIdeal.Value

open Cert.KernelIdeal Cert.KernelIdeal.Gen Cert.KernelIdeal.Run Idealize.ShloMosaic.TcCoe Idealize.SL.Sem
open Idealize.ShloMosaic hiding ix2 eq_ix2
open Idealize.ShloMosaic.ValueIdx Cert.Rows

variable (m : (ℓ : Loc nD τ sig) → Buf (Elt Ideal) ℓ)

/-! ## The blocks -/

theorem idx0 : ∀ t : Fin cfg0.N, win0_0.index t = ![t.val / 37, 0] := (by decide +kernel : ∀ t : Fin grid0.N, _)
theorem idx1 : ∀ t : Fin cfg0.N, win0_1.index t = ![0, t.val % 37] := (by decide +kernel : ∀ t : Fin grid0.N, _)
theorem idx2 : ∀ t : Fin cfg0.N, win0_2.index t = ![0, t.val % 37 + 37] := (by decide +kernel : ∀ t : Fin grid0.N, _)
theorem idx3 : ∀ t : Fin cfg0.N, win0_3.index t = ![0, t.val % 37] := (by decide +kernel : ∀ t : Fin grid0.N, _)
theorem idx4 : ∀ t : Fin cfg0.N, win0_4.index t = ![0, t.val % 37 + 37] := (by decide +kernel : ∀ t : Fin grid0.N, _)

/-- The row of the arrays that row `r` of point `t`'s blocks is. -/
def rowOf (t : Fin cfg0.N) (r : Fin 512) : Fin 12288 := ⟨t.val / 37 * 512 + r.val, by have := t.isLt; have := cfg0_N; omega⟩

/-- The column of h that column `q` of point `t`'s tile is. -/
def colOf (t : Fin cfg0.N) (q : Fin 256) : Fin 9472 := ⟨t.val % 37 * 256 + q.val, by omega⟩

/-- A step's block of x holds the 512 rows of the step's row of steps. -/
theorem iblk0_at (c : Dev nD) (t : Fin cfg0.N) (r : Fin 512) (k : Fin 3584) :
    iblk m c 0 t (ix2 r k) = (V m c main_v0 : Vec Ideal S12288x3584 .bf16) (ix2 (rowOf t r) k) := by
  have he : ((View.whole main_v0).slice (win0_0.rect t)).emb (ix2 r k) = ix2 (rowOf t r) k := by
    blk_ext [idx0 t, rowOf]
  exact congrArg (V m c main_v0) he

/-- A step's gate weights are 256 columns of the left half of the weights. -/
theorem iblk1_at (c : Dev nD) (t : Fin cfg0.N) (k : Fin 3584) (q : Fin 256) :
    iblk m c 1 t (ix2 k q) = (V m c main_arg1 : Vec Ideal S3584x18944 .fp8e4m3) (ix2 k (Result.gateCol (colOf t q))) := by
  have he : ((View.whole main_arg1).slice (win0_1.rect t)).emb (ix2 k q) = ix2 k (Result.gateCol (colOf t q)) := by
    blk_ext [idx1 t, Result.gateCol, colOf]
  exact congrArg (V m c main_arg1) he

/-- A step's up weights are the matching columns of the right half. -/
theorem iblk2_at (c : Dev nD) (t : Fin cfg0.N) (k : Fin 3584) (q : Fin 256) :
    iblk m c 2 t (ix2 k q) = (V m c main_arg1 : Vec Ideal S3584x18944 .fp8e4m3) (ix2 k (Result.upCol (colOf t q))) := by
  have he : ((View.whole main_arg1).slice (win0_2.rect t)).emb (ix2 k q) = ix2 k (Result.upCol (colOf t q)) := by
    blk_ext [idx2 t, Result.upCol, colOf]
    show (t.val % 37 + 37) * 256 + q.val = 9472 + (t.val % 37 * 256 + q.val)
    omega
  exact congrArg (V m c main_arg1) he

/-- The scales of a step's gate weights. -/
theorem iblk3_at (c : Dev nD) (t : Fin cfg0.N) (q : Fin 256) :
    iblk m c 3 t (ix2 0 q) = (V m c main_v1 : Vec Ideal S1x18944 .f32) (ix2 0 (Result.gateCol (colOf t q))) := by
  have he : ((View.whole main_v1).slice (win0_3.rect t)).emb (ix2 0 q) = ix2 0 (Result.gateCol (colOf t q)) := by
    blk_ext [idx3 t, Result.gateCol, colOf]
  exact congrArg (V m c main_v1) he

/-- The scales of a step's up weights. -/
theorem iblk4_at (c : Dev nD) (t : Fin cfg0.N) (q : Fin 256) :
    iblk m c 4 t (ix2 0 q) = (V m c main_v2 : Vec Ideal S1x18944 .f32) (ix2 0 (Result.upCol (colOf t q))) := by
  have he : ((View.whole main_v2).slice (win0_4.rect t)).emb (ix2 0 q) = ix2 0 (Result.upCol (colOf t q)) := by
    blk_ext [idx4 t, Result.upCol, colOf]
    show (t.val % 37 + 37) * 256 + q.val = 9472 + (t.val % 37 * 256 + q.val)
    omega
  exact congrArg (V m c main_v2) he

/-! ## The arrays the kernel reads -/

/-- The kernel's x is the argument, its two leading axes made one. -/
theorem V_v0 (c : Dev nD) :
    V m c main_v0 = shapeCast S12288x3584 (m ((c : Thread nD τ).loc main_arg0)) shapeCasts_S3x4096x3584_S12288x3584 := by
  show StableHlo.after hostOps0 (fun b => m (c, b)) (Proc.devRef .tc main_v0) = _
  simp only [hostOps0, StableHlo.after_cons, StableHlo.after_nil]
  rw [StableHlo.reshape_result_ne (h := by decide), StableHlo.reshape_result_ne (h := by decide), StableHlo.reshape_result']
  rfl

/-- The kernel's gate weight scales are the argument, as a row. -/
theorem V_v1 (c : Dev nD) : V m c main_v1 = shapeCast S1x18944 (m ((c : Thread nD τ).loc main_arg2)) shapeCasts_S18944_S1x18944 := by
  show StableHlo.after hostOps0 (fun b => m (c, b)) (Proc.devRef .tc main_v1) = _
  simp only [hostOps0, StableHlo.after_cons, StableHlo.after_nil]
  rw [StableHlo.reshape_result_ne (h := by decide), StableHlo.reshape_result', StableHlo.reshape_result_ne (h := by decide)]
  rfl

/-- The kernel's up weight scales are the argument, as a row. -/
theorem V_v2 (c : Dev nD) : V m c main_v2 = shapeCast S1x18944 (m ((c : Thread nD τ).loc main_arg2)) shapeCasts_S18944_S1x18944 := by
  show StableHlo.after hostOps0 (fun b => m (c, b)) (Proc.devRef .tc main_v2) = _
  simp only [hostOps0, StableHlo.after_cons, StableHlo.after_nil]
  rw [StableHlo.reshape_result', StableHlo.reshape_result_ne (h := by decide), StableHlo.reshape_result_ne (h := by decide)]
  rfl

/-- The two copies of the weight scales are the same. -/
theorem V_v2_eq (c : Dev nD) : (V m c main_v2 : Vec Ideal S1x18944 .f32) = (V m c main_v1 : Vec Ideal S1x18944 .f32) :=
  (V_v2 m c).trans (V_v1 m c).symm

/-! ## What a step computes -/

/-- All steps of a row of steps have the same rows. -/
theorem rowOf_rowStart (t : Fin cfg0.N) (r : Fin 512) : rowOf (rowStart t) r = rowOf t r :=
  Fin.ext (by show t.val / 37 * 37 / 37 * 512 + r.val = t.val / 37 * 512 + r.val; omega)

theorem rowMax_iblk (c : Dev nD) (t : Fin cfg0.N) (r : Fin 512) :
    rowMax (fun k => iblk m c 0 (rowStart t) (ix2 r k)) = Result.xMax (V m c main_v0) (rowOf t r) :=
  congrArg rowMax (funext fun k => (iblk0_at m c (rowStart t) r k).trans (by rw [rowOf_rowStart]))

theorem rowCodes_at (c : Dev nD) (t : Fin cfg0.N) (r : Fin 512) (k : Fin 3584) :
    rowCodes m c t (ix2 r k) = Result.xCode (V m c main_v0) (rowOf t r) k := by
  refine (xCodes_at (iblk m c 0 (rowStart t)) (ix2 r k)).trans ?_
  refine congrArg₂ (fun a b => code a (inv b)) ((iblk0_at m c (rowStart t) r k).trans ?_) (rowMax_iblk m c t r)
  rw [rowOf_rowStart]

theorem rowScale_at (c : Dev nD) (t : Fin cfg0.N) (i : S512x1.Idx) :
    rowScale m c t i = scale (Result.xMax (V m c main_v0) (rowOf t (i 0))) :=
  (xScale_at (iblk m c 0 (rowStart t)) i).trans (congrArg scale (rowMax_iblk m c t (i 0)))

/-- A step's tile is its part of h. -/
theorem hAt_at (c : Dev nD) (t : Fin cfg0.N) (r : Fin 512) (q : Fin 256) :
    hAt m c t (ix2 r q) = Result.h (V m c main_v0) (V m c main_arg1) (V m c main_v1) (rowOf t r) (colOf t q) := by
  unfold hAt
  refine (hTile_at _ _ _ _ _ _ (ix2 r q)).trans ?_
  have e0 : (fun k => rowCodes m c t (ix2 r k)) = Result.xCode (V m c main_v0) (rowOf t r) := funext fun k => rowCodes_at m c t r k
  have e1 : (fun k => iblk m c 1 t (ix2 k q)) = fun k => (V m c main_arg1 : Vec Ideal S3584x18944 .fp8e4m3) (ix2 k (Result.gateCol (colOf t q))) :=
    funext fun k => iblk1_at m c t k q
  have e2 : (fun k => iblk m c 2 t (ix2 k q)) = fun k => (V m c main_arg1 : Vec Ideal S3584x18944 .fp8e4m3) (ix2 k (Result.upCol (colOf t q))) :=
    funext fun k => iblk2_at m c t k q
  have e3 := iblk3_at m c t q
  have e4 := (iblk4_at m c t q).trans (congrFun (V_v2_eq m c) _)
  have es : rowScale m c t (ix2 r 0) = scale (Result.xMax (V m c main_v0) (rowOf t r)) := rowScale_at m c t (ix2 r 0)
  unfold Result.h
  rw [← e0, ← e1, ← e2, ← e3, ← e4, ← es]

/-- A row of steps computes its rows of h. -/
theorem hRow_at (c : Dev nD) (t : Fin cfg0.N) (r : Fin 512) (k : Fin 9472) :
    hRow m c t (ix2 r k) = Result.h (V m c main_v0) (V m c main_arg1) (V m c main_v1) (rowOf t r) k := by
  have hk := k.isLt
  have e : hRow m c t (ix2 r k) = hAt m c (colPoint t k.val k.isLt) (ix2 r ⟨k.val % 256, Nat.mod_lt _ (by decide)⟩) := by
    unfold hRow
    refine congrArg (hAt m c (colPoint t k.val k.isLt)) (funext fun a => ?_)
    match a with
    | ⟨0, _⟩ => rfl
    | ⟨1, _⟩ => rfl
  refine e.trans ((hAt_at m c _ r _).trans ?_)
  refine congrArg₂ (Result.h (V m c main_v0) (V m c main_arg1) (V m c main_v1)) (Fin.ext ?_) (Fin.ext ?_)
  · show (t.val / 37 * 37 + k.val / 256) / 37 * 512 + r.val = t.val / 37 * 512 + r.val
    omega
  · show (t.val / 37 * 37 + k.val / 256) % 37 * 256 + k.val % 256 = k.val
    omega

end Cert.KernelIdeal.Value

end
-- ==== Proof.Value.KernelRun.lean ====
/-
What the kernel leaves in its four result arrays: the running row maximum over a row of steps is the maximum
over the whole row of h, and the last step of each row of steps writes its 512 rows of every result.
-/
module

public import proofs.«01_k».proof.Proof.Run.Frame
public import proofs.«01_k».proof.Proof.Value.KernelBlocks

@[expose] public section

set_option maxRecDepth 16384

noncomputable section

namespace Cert.KernelIdeal.Value

open Cert.KernelIdeal Cert.KernelIdeal.Gen Cert.KernelIdeal.Run Idealize.ShloMosaic.TcCoe Idealize.SL.Sem
open Idealize.ShloMosaic hiding ix2 eq_ix2
open Idealize.ShloMosaic.ValueIdx Cert.Rows

variable (m : (ℓ : Loc nD τ sig) → Buf (Elt Ideal) ℓ) (ρ : Dev nD → PrngReg)

/-! ## The running maximum -/

/-- One number of h, from the arrays the kernel reads. -/
abbrev hNum (c : Dev nD) (r : Fin 12288) (k : Fin 9472) : EReal := Result.h (V m c main_v0) (V m c main_arg1) (V m c main_v1) r k

/-- One step takes the running maximum to the maximum of it and the step's columns. -/
theorem maxStep_le (c : Dev nD) (t : Fin cfg0.N) (a : Vec Ideal S512x1 .f32) (i : S512x1.Idx) (b : EReal) :
    (maxStep m c t a i : EReal) ≤ b ↔
      (a i : EReal) ≤ b ∧ ∀ q : Fin 256, max (hNum m c (rowOf t (i 0)) (colOf t q)) (-(hNum m c (rowOf t (i 0)) (colOf t q))) ≤ b := by
  have e : (maxStep m c t a i : EReal) = (max (a i) (rowMax (fun k => hAt m c t (ix2 (i 0) k))) : EReal) :=
    maxNext_at a (rowCodes m c t) (rowScale m c t) (iblk m c 1 t) (iblk m c 2 t) (iblk m c 3 t) (iblk m c 4 t) i
  have e' : (fun k => hAt m c t (ix2 (i 0) k)) = fun q => Result.h (V m c main_v0) (V m c main_arg1) (V m c main_v1) (rowOf t (i 0)) (colOf t q) :=
    funext fun q => hAt_at m c t (i 0) q
  rw [e, e']
  exact max_le_iff.trans (and_congr_right fun _ => rowMax_le _ _)

/-- The running maximum after step `j` of row `p` of steps is the maximum over the columns up to the step's. -/
theorem maxAt_le (c : Dev nD) (i : S512x1.Idx) (b : EReal) (p j : ℕ) (hp : p < 24) (hj : j < 37) (hn : 37 * p + j < cfg0.N) :
    (maxAt m c (37 * p + j) hn i : EReal) ≤ b ↔
      0 ≤ b ∧ ∀ k : Fin 9472, k.val < 256 * (j + 1) →
        max (hNum m c (rowOf ⟨37 * p + j, hn⟩ (i 0)) k) (-(hNum m c (rowOf ⟨37 * p + j, hn⟩ (i 0)) k)) ≤ b := by
  induction j with
  | zero =>
    have e := maxAt_first m c ⟨37 * p + 0, hn⟩ (by show (37 * p + 0) % 37 = 0; omega)
    rw [show maxAt m c (37 * p + 0) hn = _ from e, maxStep_le, maxZero_at]
    refine and_congr_right fun _ => ⟨fun h k hk => ?_, fun h q => h _ ?_⟩
    · have ek : colOf ⟨37 * p + 0, hn⟩ ⟨k.val, by omega⟩ = k := Fin.ext (by show (37 * p + 0) % 37 * 256 + k.val = k.val; omega)
      have := h ⟨k.val, by omega⟩
      rwa [ek] at this
    · show (37 * p + 0) % 37 * 256 + q.val < 256 * (0 + 1)
      omega
  | succ j ih =>
    have e := maxAt_next m c ⟨37 * p + (j + 1), hn⟩ (by show ¬(37 * p + (j + 1)) % 37 = 0; omega)
    have ih' := ih (by omega) (by omega)
    have er : rowOf ⟨37 * p + (j + 1), hn⟩ (i 0) = rowOf ⟨37 * p + j, by omega⟩ (i 0) :=
      Fin.ext (by show (37 * p + (j + 1)) / 37 * 512 + (i 0).val = (37 * p + j) / 37 * 512 + (i 0).val; omega)
    rw [show maxAt m c (37 * p + (j + 1)) hn = _ from e, maxStep_le]
    refine (and_congr_left' ih').trans ?_
    rw [er, and_assoc]
    refine and_congr_right fun _ => ⟨fun h k hk => ?_, fun h => ⟨fun k hk => h k (by omega), fun q => h _ ?_⟩⟩
    · by_cases hk' : k.val < 256 * (j + 1)
      · exact h.1 k hk'
      · have ek : colOf ⟨37 * p + (j + 1), hn⟩ ⟨k.val - 256 * (j + 1), by omega⟩ = k :=
          Fin.ext (by show (37 * p + (j + 1)) % 37 * 256 + (k.val - 256 * (j + 1)) = k.val; omega)
        have := h.2 ⟨k.val - 256 * (j + 1), by omega⟩
        rwa [ek] at this
    · show (37 * p + (j + 1)) % 37 * 256 + q.val < 256 * (j + 1 + 1)
      omega

/-- After the last step of a row of steps the running maximum is the row maximum of h. -/
theorem maxAt_last (c : Dev nD) (t : Fin cfg0.N) (ht : t.val % 37 = 36) (i : S512x1.Idx) :
    maxAt m c t.val t.isLt i = Result.hMax (V m c main_v0) (V m c main_arg1) (V m c main_v1) (rowOf t (i 0)) := by
  have hN : t.val < 888 := lt_of_lt_of_eq t.isLt cfg0_N
  have key : ∀ b : EReal, (maxAt m c t.val t.isLt i : EReal) ≤ b ↔
      (Result.hMax (V m c main_v0) (V m c main_arg1) (V m c main_v1) (rowOf t (i 0)) : EReal) ≤ b := fun b => by
    obtain ⟨n, hn⟩ := t
    obtain ⟨p, rfl⟩ : ∃ p, n = 37 * p + 36 := ⟨n / 37, by have : n % 37 = 36 := ht; omega⟩
    have hN' : 37 * p + 36 < 888 := hN
    refine (maxAt_le m c i b p 36 (by omega) (by omega) hn).trans ?_
    unfold Result.hMax
    refine Iff.trans ?_ (rowMax_le _ _).symm
    exact ⟨fun h k => h.2 k (by have := k.isLt; omega), fun h => ⟨(abs_nonneg _).trans (h 0), fun k _ => h k⟩⟩
  exact le_antisymm ((key _).mpr le_rfl) ((key _).mp le_rfl)

/-! ## The result arrays -/

theorem idx5 : ∀ t : Fin cfg0.N, win0_5.index t = ![t.val / 37, 0] := (by decide +kernel : ∀ t : Fin grid0.N, _)
theorem idx6 : ∀ t : Fin cfg0.N, win0_6.index t = ![t.val / 37, 0] := (by decide +kernel : ∀ t : Fin grid0.N, _)
theorem idx7 : ∀ t : Fin cfg0.N, win0_7.index t = ![t.val / 37, 0] := (by decide +kernel : ∀ t : Fin grid0.N, _)
theorem idx8 : ∀ t : Fin cfg0.N, win0_8.index t = ![t.val / 37, 0] := (by decide +kernel : ∀ t : Fin grid0.N, _)

/-- The step that writes row `r` of the results. -/
def lastStep (r : Fin 12288) : Fin cfg0.N := ⟨37 * (r.val / 512) + 36, by have := cfg0_N; omega⟩

theorem lastStep_row (r : Fin 12288) : (lastStep r).val / 37 = r.val / 512 := by
  show (37 * (r.val / 512) + 36) / 37 = r.val / 512
  omega

theorem lastStep_mod (r : Fin 12288) : (lastStep r).val % 37 = 36 := by
  show (37 * (r.val / 512) + 36) % 37 = 36
  omega

/-- The array of window 5 after the run: the scales of h. -/
theorem final5 (c : Dev nD) : (dats m 0 c).arrAt 5 cfg0.N = Result.hScales (V m c main_v0) (V m c main_arg1) (V m c main_v1) := by
  refine (dats m 0 c).arrAt_eq_of_cover 5 _ (fun t hf => ?_) fun i => ?_
  · have hm : t.val % 37 = 36 := (flush0_5 t).mp hf
    show (cfg0.win 5).cut (grid0.coords t) ((dats m 0 c).after 5 t) = _
    rw [after5]
    funext y
    have he : (((View.whole main_v3_0).slice (win0_5.rect t)).emb y : S12288x1.Idx) 0 = rowOf t (y 0) := by
      refine Fin.ext ?_
      show win0_5.index t (0 : Fin 2) * 512 + 1 * (y 0).val = t.val / 37 * 512 + (y 0).val
      rw [idx5 t, Nat.one_mul]; rfl
    refine (hScale_at (maxAt m c t.val t.isLt) y).trans ?_
    refine congrArg scale ?_
    exact (maxAt_last m c t hm y).trans (congrArg (Result.hMax (V m c main_v0) (V m c main_arg1) (V m c main_v1)) he.symm)
  · refine ⟨lastStep (i 0), (flush0_5 _).mpr (lastStep_mod _), ?_⟩
    have h0 : (i 0).val < 12288 := (i 0).isLt
    have h1 : (i 1).val < 1 := (i 1).isLt
    have hr := lastStep_row (i 0)
    show i ∈ ((View.whole main_v3_0).slice (win0_5.rect (lastStep (i 0)))).set
    rw [View.set_slice_whole, Rect.mem_set_unit]
    intro a
    have e := congrFun (idx5 (lastStep (i 0))) a
    match a with
    | ⟨0, _⟩ =>
      show win0_5.index (lastStep (i 0)) (0 : Fin 2) * 512 ≤ (i 0).val ∧ (i 0).val < win0_5.index (lastStep (i 0)) (0 : Fin 2) * 512 + 512
      rw [show win0_5.index (lastStep (i 0)) (0 : Fin 2) = (lastStep (i 0)).val / 37 from e, hr]; omega
    | ⟨1, _⟩ =>
      show win0_5.index (lastStep (i 0)) (1 : Fin 2) * 1 ≤ (i 1).val ∧ (i 1).val < win0_5.index (lastStep (i 0)) (1 : Fin 2) * 1 + 1
      rw [show win0_5.index (lastStep (i 0)) (1 : Fin 2) = 0 from e]; omega

/-- The array of window 6 after the run: the codes of h. -/
theorem final6 (c : Dev nD) : (dats m 0 c).arrAt 6 cfg0.N = Result.hCodes (V m c main_v0) (V m c main_arg1) (V m c main_v1) := by
  refine (dats m 0 c).arrAt_eq_of_cover 6 _ (fun t hf => ?_) fun i => ?_
  · have hm : t.val % 37 = 36 := (flush0_6 t).mp hf
    show (cfg0.win 6).cut (grid0.coords t) ((dats m 0 c).after 6 t) = _
    rw [after6]
    funext y
    have he : ((View.whole main_v3_1).slice (win0_6.rect t)).emb y = (ix2 (rowOf t (y 0)) (y 1) : S12288x9472.Idx) := by
      blk_ext [idx6 t, rowOf]
    refine (hCodes_at (maxAt m c t.val t.isLt) (hRow m c t) y).trans ?_
    refine Eq.trans ?_ (congrArg (Result.hCodes (V m c main_v0) (V m c main_arg1) (V m c main_v1)) he.symm)
    refine congrArg₂ (fun a b => code a (inv b)) ?_ (maxAt_last m c t hm (ix2 (y 0) 0))
    exact (congrArg (hRow m c t) (eq_ix2 y)).trans (hRow_at m c t (y 0) (y 1))
  · refine ⟨lastStep (i 0), (flush0_6 _).mpr (lastStep_mod _), ?_⟩
    have h0 : (i 0).val < 12288 := (i 0).isLt
    have h1 : (i 1).val < 9472 := (i 1).isLt
    have hr := lastStep_row (i 0)
    show i ∈ ((View.whole main_v3_1).slice (win0_6.rect (lastStep (i 0)))).set
    rw [View.set_slice_whole, Rect.mem_set_unit]
    intro a
    have e := congrFun (idx6 (lastStep (i 0))) a
    match a with
    | ⟨0, _⟩ =>
      show win0_6.index (lastStep (i 0)) (0 : Fin 2) * 512 ≤ (i 0).val ∧ (i 0).val < win0_6.index (lastStep (i 0)) (0 : Fin 2) * 512 + 512
      rw [show win0_6.index (lastStep (i 0)) (0 : Fin 2) = (lastStep (i 0)).val / 37 from e, hr]; omega
    | ⟨1, _⟩ =>
      show win0_6.index (lastStep (i 0)) (1 : Fin 2) * 9472 ≤ (i 1).val ∧ (i 1).val < win0_6.index (lastStep (i 0)) (1 : Fin 2) * 9472 + 9472
      rw [show win0_6.index (lastStep (i 0)) (1 : Fin 2) = 0 from e]; omega

/-- The array of window 7 after the run: the codes of x. -/
theorem final7 (c : Dev nD) : (dats m 0 c).arrAt 7 cfg0.N = Result.xCodes (V m c main_v0) := by
  refine (dats m 0 c).arrAt_eq_of_cover 7 _ (fun t hf => ?_) fun i => ?_
  · show (cfg0.win 7).cut (grid0.coords t) ((dats m 0 c).after 7 t) = _
    rw [after7]
    funext y
    have he : ((View.whole main_v3_2).slice (win0_7.rect t)).emb y = (ix2 (rowOf t (y 0)) (y 1) : S12288x3584.Idx) := by
      blk_ext [idx7 t, rowOf]
    refine Eq.trans ?_ (congrArg (Result.xCodes (V m c main_v0)) he.symm)
    exact (congrArg (rowCodes m c t) (eq_ix2 y)).trans (rowCodes_at m c t (y 0) (y 1))
  · refine ⟨lastStep (i 0), (flush0_7 _).mpr (lastStep_mod _), ?_⟩
    have h0 : (i 0).val < 12288 := (i 0).isLt
    have h1 : (i 1).val < 3584 := (i 1).isLt
    have hr := lastStep_row (i 0)
    show i ∈ ((View.whole main_v3_2).slice (win0_7.rect (lastStep (i 0)))).set
    rw [View.set_slice_whole, Rect.mem_set_unit]
    intro a
    have e := congrFun (idx7 (lastStep (i 0))) a
    match a with
    | ⟨0, _⟩ =>
      show win0_7.index (lastStep (i 0)) (0 : Fin 2) * 512 ≤ (i 0).val ∧ (i 0).val < win0_7.index (lastStep (i 0)) (0 : Fin 2) * 512 + 512
      rw [show win0_7.index (lastStep (i 0)) (0 : Fin 2) = (lastStep (i 0)).val / 37 from e, hr]; omega
    | ⟨1, _⟩ =>
      show win0_7.index (lastStep (i 0)) (1 : Fin 2) * 3584 ≤ (i 1).val ∧ (i 1).val < win0_7.index (lastStep (i 0)) (1 : Fin 2) * 3584 + 3584
      rw [show win0_7.index (lastStep (i 0)) (1 : Fin 2) = 0 from e]; omega

/-- The array of window 8 after the run: the scales of x. -/
theorem final8 (c : Dev nD) : (dats m 0 c).arrAt 8 cfg0.N = Result.xScales (V m c main_v0) := by
  refine (dats m 0 c).arrAt_eq_of_cover 8 _ (fun t hf => ?_) fun i => ?_
  · show (cfg0.win 8).cut (grid0.coords t) ((dats m 0 c).after 8 t) = _
    rw [after8]
    funext y
    have he : (((View.whole main_v3_3).slice (win0_8.rect t)).emb y : S12288x1.Idx) 0 = rowOf t (y 0) := by
      refine Fin.ext ?_
      show win0_8.index t (0 : Fin 2) * 512 + 1 * (y 0).val = t.val / 37 * 512 + (y 0).val
      rw [idx8 t, Nat.one_mul]; rfl
    refine (rowScale_at m c t y).trans ?_
    refine congrArg scale ?_
    exact congrArg (Result.xMax (V m c main_v0)) he.symm
  · refine ⟨lastStep (i 0), (flush0_8 _).mpr (lastStep_mod _), ?_⟩
    have h0 : (i 0).val < 12288 := (i 0).isLt
    have h1 : (i 1).val < 1 := (i 1).isLt
    have hr := lastStep_row (i 0)
    show i ∈ ((View.whole main_v3_3).slice (win0_8.rect (lastStep (i 0)))).set
    rw [View.set_slice_whole, Rect.mem_set_unit]
    intro a
    have e := congrFun (idx8 (lastStep (i 0))) a
    match a with
    | ⟨0, _⟩ =>
      show win0_8.index (lastStep (i 0)) (0 : Fin 2) * 512 ≤ (i 0).val ∧ (i 0).val < win0_8.index (lastStep (i 0)) (0 : Fin 2) * 512 + 512
      rw [show win0_8.index (lastStep (i 0)) (0 : Fin 2) = (lastStep (i 0)).val / 37 from e, hr]; omega
    | ⟨1, _⟩ =>
      show win0_8.index (lastStep (i 0)) (1 : Fin 2) * 1 ≤ (i 1).val ∧ (i 1).val < win0_8.index (lastStep (i 0)) (1 : Fin 2) * 1 + 1
      rw [show win0_8.index (lastStep (i 0)) (1 : Fin 2) = 0 from e]; omega

/-- A run of the kernel leaves the four results and its arguments as they were. -/
theorem run : θ_run defs (onTc (τ := τ) (main (F := Ideal))) ⟨m, fun _ => 0, ρ⟩ fun r => ∀ c : Dev nD,
      r.2.mem ((c : Thread nD τ).loc main_v3_0) = Result.hScales (V m c main_v0) (V m c main_arg1) (V m c main_v1)
      ∧ r.2.mem ((c : Thread nD τ).loc main_v3_1) = Result.hCodes (V m c main_v0) (V m c main_arg1) (V m c main_v1)
      ∧ r.2.mem ((c : Thread nD τ).loc main_v3_2) = Result.xCodes (V m c main_v0)
      ∧ r.2.mem ((c : Thread nD τ).loc main_v3_3) = Result.xScales (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final5 m c), ((h c).1 6).trans (final6 m c), ((h c).1 7).trans (final7 m c),
      ((h c).1 8).trans (final8 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩)
    (run_main m ρ)

end Cert.KernelIdeal.Value

end
-- ==== Proof.Value.ReferenceTerms.lean ====
/-
The terms of the reference, each read at one index as a function of one row.
-/
module

public import proofs.«01_k».proof.Proof.Gen.ReferenceIdeal
public import proofs.«01_k».proof.Proof.Gen.ReferenceIdeal.Skeleton
public import proofs.«01_k».proof.Proof.Value.Rows

@[expose] public section

set_option maxRecDepth 16384

noncomputable section

namespace Cert.ReferenceIdeal.Value

open Cert.ReferenceIdeal Cert.ReferenceIdeal.Gen Cert.Rows Cert.Scalar
open Idealize.ShloMosaic Idealize.ShloMosaic.TcCoe Idealize.ShloMosaic.ValueIdx

variable [Cert.ReferenceIdeal.Facts]

/-- The exponents of a column of row maxima, in vector operations. -/
def vExp (v : FVec Ideal S12288x1 .f32) : FVec Ideal S12288x1 .f32 :=
  select (cmpf .oeq v (broadcast S12288x1 (Scalar.ofBits .f32 0x00000000#32))) (broadcast S12288x1 (Scalar.ofBits .f32 0x00000000#32))
    (select
      (andi (cmpf .oge (mulf v (broadcast S12288x1 (Scalar.ofBits .f32 0x3B124925#32))) (broadcast S12288x1 (Scalar.ofBits .f32 0x00800000#32)))
        (cmpf .olt (mulf v (broadcast S12288x1 (Scalar.ofBits .f32 0x3B124925#32))) (broadcast S12288x1 (Scalar.ofBits .f32 0x7F800000#32))))
      (addf (floor (divf (Idealize.ShloMosaic.log (mulf v (broadcast S12288x1 (Scalar.ofBits .f32 0x3B124925#32))))
          (Idealize.ShloMosaic.log (broadcast S12288x1 (Scalar.ofBits .f32 0x40000000#32)))))
        (broadcast S12288x1 (Scalar.ofBits .f32 0x3F800000#32)))
      (broadcast S12288x1 (Scalar.ofBits .f32 0x00000000#32)))

theorem vExp_at (v : FVec Ideal S12288x1 .f32) (i : S12288x1.Idx) : vExp v i = rExp (v i) := rfl

/-- The scales of a column of exponents, in vector operations. -/
def vScale (e : FVec Ideal S12288x1 .f32) : FVec Ideal S12288x1 .f32 :=
  select (cmpf .ogt e (broadcast S12288x1 (Scalar.ofBits .f32 0x42FE0000#32))) (broadcast S12288x1 (Scalar.ofBits .f32 0x7F800000#32))
    (Idealize.ShloMosaic.exp2 e)

theorem vScale_at (e : FVec Ideal S12288x1 .f32) (i : S12288x1.Idx) : vScale e i = rScaleOf (e i) := rfl

/-- The inverse scales of a column of exponents, in vector operations. -/
def vInv (e : FVec Ideal S12288x1 .f32) : FVec Ideal S12288x1 .f32 :=
  select (cmpf .olt (subf (broadcast S12288x1 (Scalar.ofBits .f32 0x00000000#32)) e) (broadcast S12288x1 (Scalar.ofBits .f32 0xC2FC0000#32)))
    (broadcast S12288x1 (Scalar.ofBits .f32 0x00000000#32))
    (Idealize.ShloMosaic.exp2 (subf (broadcast S12288x1 (Scalar.ofBits .f32 0x00000000#32)) e))

theorem vInv_at (e : FVec Ideal S12288x1 .f32) (i : S12288x1.Idx) : vInv e i = rInvOf (e i) := rfl

theorem pay3_eq (x : Vec Ideal S12288x3584 .bf16) : k0_pay3 x = x := by
  unfold k0_pay3
  exact shapeCast_self (s := S12288x3584) x _

theorem pay4_eq (x : Vec Ideal S12288x3584 .bf16) :
    k0_pay4 x = vExp (shapeCast S12288x1 (multiReduction .maximumf [1] S12288 (absf (k0_pay3 x)) 0xFF800000#32
      reduces_S12288x3584_S12288 (.inl rfl) rfl) shapeCasts_S12288_S12288x1) := rfl

/-- The exponent of one row of x. -/
theorem pay4_at (x : Vec Ideal S12288x3584 .bf16) (i : S12288x1.Idx) : k0_pay4 x i = rExp (rowMax (fun k => x (ix2 (i 0) k))) := by
  rw [pay4_eq, vExp_at]
  refine congrArg rExp ((colCast _ _ i).trans ?_)
  refine (reduce_abs (k0_pay3 x) _ _ _ (i 0)).trans ?_
  rw [pay3_eq]

theorem pay5_eq (x : Vec Ideal S12288x3584 .bf16) : k0_pay5 x = vScale (k0_pay4 x) := rfl

/-- The scale of one row of x. -/
theorem pay5_at (x : Vec Ideal S12288x3584 .bf16) (i : S12288x1.Idx) : k0_pay5 x i = scale (rowMax (fun k => x (ix2 (i 0) k))) := by
  rw [pay5_eq, vScale_at, pay4_at, scale]

theorem pay6_eq (x : Vec Ideal S12288x3584 .bf16) :
    k0_pay6 x = mulf (k0_pay3 x) (broadcastTo S12288x3584 (vInv (k0_pay4 x)) broadcasts_S12288x1_S12288x3584) := rfl

theorem pay7_at (v w : FVec Ideal S12288x3584 .f32) (y : S12288x3584.Idx) :
    k0_pay7 (mulf v w) (Scalar.ofBits .f32 0xC3E00000#32) y = code (v y) (w y) := rfl

/-- One code of x. -/
theorem codes_at (x : Vec Ideal S12288x3584 .bf16) (y : S12288x3584.Idx) :
    k0_pay7 (k0_pay6 x) (Scalar.ofBits .f32 0xC3E00000#32) y = code (x y) (inv (rowMax (fun k => x (ix2 (y 0) k)))) := by
  rw [pay6_eq, pay7_at, pay3_eq, bcastCol, vInv_at, pay4_at]
  unfold Rows.inv
  rfl

theorem dot_plain : dot_S12288x3584_S3584x18944_S12288x18944_1_0_0_1_n_n = DotDims.plain 12288 3584 18944 := rfl

/-- One number of h. -/
theorem pay8_at (xs : FVec Ideal S12288x1 .f32) (v : FVec Ideal S12288x3584 .f32) (c : Ideal .f32) (w : Vec Ideal S3584x18944 .fp8e4m3)
    (s : Vec Ideal S1x18944 .f32) (y : S12288x9472.Idx) (gc uc : Fin 18944) (hg : gc.val = (y 1).val) (hu : uc.val = 9472 + (y 1).val) :
    k0_pay8 xs v c w s y
      = act (proj (fun k => k0_pay7 v c (ix2 (y 0) k)) (fun k => w (ix2 k gc)) (xs (ix2 (y 0) 0)) (s (ix2 0 gc)))
          (proj (fun k => k0_pay7 v c (ix2 (y 0) k)) (fun k => w (ix2 k uc)) (xs (ix2 (y 0) 0)) (s (ix2 0 uc))) := by
  have dot : ∀ j : S12288x18944.Idx,
      FloatOps.mulf (FloatOps.mulf
          (matmul (F := Ideal) dot_S12288x3584_S3584x18944_S12288x18944_1_0_0_1_n_n none (φ₁ := .fp8e4m3) (φ₂ := .fp8e4m3) (k0_pay7 v c) w
            (constant S12288x18944 .f32 0x00000000#32) j)
          (broadcastTo S12288x18944 xs broadcasts_S12288x1_S12288x18944 j)) (broadcastTo S12288x18944 s broadcasts_S1x18944_S12288x18944 j)
        = proj (fun k => k0_pay7 v c (ix2 (j 0) k)) (fun k => w (ix2 k (j 1))) (xs (ix2 (j 0) 0)) (s (ix2 0 (j 1))) := by
    intro j
    rw [bcastCol, bcastRow, dot_plain]
    unfold proj
    exact congrArg (fun t : Ideal .f32 => FloatOps.mulf (FloatOps.mulf t _) _) (matmul_at (k0_pay7 v c) w j)
  have sl : ∀ (z : FVec Ideal S12288x18944 .f32) (off : Fin 2 → ℕ) (h : S12288x18944.Slices off S12288x9472) (q : Fin 18944),
      off 0 = 0 → q.val = off 1 + (y 1).val → extractStridedSlice S12288x9472 off z h y = z (ix2 (y 0) q) := by
    intro z off h q h0 h1
    refine congrArg z (Shape.idx_ext₂ ?_ h1.symm)
    show off 0 + (y 0).val = (y 0).val
    omega
  unfold k0_pay8
  simp only [shapeCast_self]
  refine (congrArg₂ (fun a b : Ideal .f32 => act a b)
    ((sl _ ![0, 0] _ gc rfl (by simpa using hg)).trans (dot (ix2 (y 0) gc)))
    ((sl _ ![0, 9472] _ uc rfl (by simpa using hu)).trans (dot (ix2 (y 0) uc))))

theorem pay9_eq (xs : FVec Ideal S12288x1 .f32) (v : FVec Ideal S12288x3584 .f32) (c : Ideal .f32) (w : Vec Ideal S3584x18944 .fp8e4m3)
    (s : Vec Ideal S1x18944 .f32) :
    k0_pay9 xs v c w s = vExp (shapeCast S12288x1 (multiReduction .maximumf [1] S12288 (absf (k0_pay8 xs v c w s)) 0xFF800000#32
      reduces_S12288x9472_S12288 (.inl rfl) rfl) shapeCasts_S12288_S12288x1) := rfl

/-- The exponent of one row of h. -/
theorem pay9_at (xs : FVec Ideal S12288x1 .f32) (v : FVec Ideal S12288x3584 .f32) (c : Ideal .f32) (w : Vec Ideal S3584x18944 .fp8e4m3)
    (s : Vec Ideal S1x18944 .f32) (i : S12288x1.Idx) :
    k0_pay9 xs v c w s i = rExp (rowMax (fun k => k0_pay8 xs v c w s (ix2 (i 0) k))) := by
  rw [pay9_eq, vExp_at]
  refine congrArg rExp ((colCast _ _ i).trans ?_)
  exact reduce_abs (k0_pay8 xs v c w s) _ _ _ (i 0)

theorem hScale_eq (xs : FVec Ideal S12288x1 .f32) (v : FVec Ideal S12288x3584 .f32) (c : Ideal .f32) (w : Vec Ideal S3584x18944 .fp8e4m3)
    (s : Vec Ideal S1x18944 .f32) :
    k0_pay1 (k0_pay10 xs v c w s) (k0_pay11 xs v c w s) = vScale (k0_pay9 xs v c w s) := rfl

/-- The scale of one row of h. -/
theorem hScale_at (xs : FVec Ideal S12288x1 .f32) (v : FVec Ideal S12288x3584 .f32) (c : Ideal .f32) (w : Vec Ideal S3584x18944 .fp8e4m3)
    (s : Vec Ideal S1x18944 .f32) (i : S12288x1.Idx) :
    k0_pay1 (k0_pay10 xs v c w s) (k0_pay11 xs v c w s) i = scale (rowMax (fun k => k0_pay8 xs v c w s (ix2 (i 0) k))) := by
  rw [hScale_eq, vScale_at, pay9_at, scale]

theorem pay2_at (v : FVec Ideal S12288x9472 .f32) (e : FVec Ideal S12288x1 .f32) (y : S12288x9472.Idx) :
    k0_pay2 v e y = code (v y) (broadcastTo S12288x9472 (vInv e) broadcasts_S12288x1_S12288x9472 y) := rfl

/-- One code of h. -/
theorem hCodes_at (xs : FVec Ideal S12288x1 .f32) (v : FVec Ideal S12288x3584 .f32) (c : Ideal .f32) (w : Vec Ideal S3584x18944 .fp8e4m3)
    (s : Vec Ideal S1x18944 .f32) (y : S12288x9472.Idx) :
    k0_pay2 (k0_pay8 xs v c w s) (k0_pay9 xs v c w s) y
      = code (k0_pay8 xs v c w s y) (inv (rowMax (fun k => k0_pay8 xs v c w s (ix2 (y 0) k)))) := by
  rw [pay2_at, bcastCol, vInv_at, pay9_at]
  unfold Rows.inv
  rfl

end Cert.ReferenceIdeal.Value

end
-- ==== Proof.Value.ReferenceRun.lean ====
/-
What the reference leaves in its four result arrays.
-/
module

public import proofs.«01_k».proof.Proof.Gen.ReferenceIdeal.Frame
public import proofs.«01_k».proof.Proof.Value.ReferenceTerms
public import proofs.«01_k».proof.Proof.Value.Result
public import Idealize.ShloMosaic.Lib.Pipeline.ValueKit

@[expose] public section

set_option maxRecDepth 16384

noncomputable section

namespace Cert.ReferenceIdeal.Value

open Cert.ReferenceIdeal Cert.ReferenceIdeal.Gen Idealize.ShloMosaic.TcCoe Idealize.SL.Sem
open Idealize.ShloMosaic hiding ix2 eq_ix2
open Idealize.ShloMosaic.ValueIdx Cert.Rows

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The one grid point reads the whole of x. -/
theorem iblk0 (c : Dev nD) (t : Fin cfg0.N) : iblk m c 0 t = (V m c main_v0 : Vec Ideal S12288x3584 .bf16) := by
  funext y
  blk_ext [iblk, idx t]

/-- The one grid point reads the whole of the weight codes. -/
theorem iblk1 (c : Dev nD) (t : Fin cfg0.N) : iblk m c 1 t = (V m c main_arg1 : Vec Ideal S3584x18944 .fp8e4m3) := by
  funext y
  blk_ext [iblk, idx t]

/-- The one grid point reads the whole of the weight scales. -/
theorem iblk2 (c : Dev nD) (t : Fin cfg0.N) : iblk m c 2 t = (V m c main_v1 : Vec Ideal S1x18944 .f32) := by
  funext y
  blk_ext [iblk, idx t]

/-- What the body makes of its inputs. -/
abbrev hTerm (x0 : Vec Ideal S12288x3584 .bf16) (x1 : Vec Ideal S3584x18944 .fp8e4m3) (x2 : Vec Ideal S1x18944 .f32) :
    FVec Ideal S12288x9472 .f32 :=
  k0_pay8 (k0_pay5 x0) (k0_pay6 x0) (Scalar.ofBits .f32 0xC3E00000#32) x1 x2

theorem hTerm_at (x0 : Vec Ideal S12288x3584 .bf16) (x1 : Vec Ideal S3584x18944 .fp8e4m3) (x2 : Vec Ideal S1x18944 .f32)
    (r : Fin 12288) (c : Fin 9472) : hTerm x0 x1 x2 (ix2 r c) = Result.h x0 x1 x2 r c := by
  unfold hTerm
  rw [pay8_at (k0_pay5 x0) (k0_pay6 x0) (Scalar.ofBits .f32 0xC3E00000#32) x1 x2 (ix2 r c) (Result.gateCol c) (Result.upCol c) rfl rfl]
  have e : (fun k => k0_pay7 (k0_pay6 x0) (Scalar.ofBits .f32 0xC3E00000#32) (ix2 r k)) = Result.xCode x0 r :=
    funext fun k => codes_at x0 (ix2 r k)
  have e5 : k0_pay5 x0 (ix2 r 0) = scale (Result.xMax x0 r) := pay5_at x0 (ix2 r 0)
  unfold Result.h
  rw [← e, ← e5]

theorem hMax_eq (x0 : Vec Ideal S12288x3584 .bf16) (x1 : Vec Ideal S3584x18944 .fp8e4m3) (x2 : Vec Ideal S1x18944 .f32) (r : Fin 12288) :
    rowMax (fun k => hTerm x0 x1 x2 (ix2 r k)) = Result.hMax x0 x1 x2 r := by
  unfold Result.hMax
  exact congrArg rowMax (funext fun k => hTerm_at x0 x1 x2 r k)

theorem load0 (x : Vec Ideal S12288x3584 .bf16) : View.ld x r0_0 = x :=
  View.ld_unit_zero (funext fun a => match a with | ⟨0, _⟩ => rfl | ⟨1, _⟩ => rfl) _ x

theorem load1 (x : Vec Ideal S3584x18944 .fp8e4m3) : View.ld x r0_1 = x :=
  View.ld_unit_zero (funext fun a => match a with | ⟨0, _⟩ => rfl | ⟨1, _⟩ => rfl) _ x

theorem load2 (x : Vec Ideal S1x18944 .f32) : View.ld x r0_2 = x :=
  View.ld_unit_zero (funext fun a => match a with | ⟨0, _⟩ => rfl | ⟨1, _⟩ => rfl) _ x

theorem pay12_eq (x0 : Vec Ideal S12288x3584 .bf16) (x1 : Vec Ideal S3584x18944 .fp8e4m3) (x2 : Vec Ideal S1x18944 .f32) :
    k0_pay12 x0 x1 x2 = k0_pay5 x0 := by
  unfold k0_pay12
  rw [load0]

theorem pay13_eq (x0 : Vec Ideal S12288x3584 .bf16) (x1 : Vec Ideal S3584x18944 .fp8e4m3) (x2 : Vec Ideal S1x18944 .f32) :
    k0_pay13 x0 x1 x2 = k0_pay6 x0 := by
  unfold k0_pay13
  rw [load0]

/-- The array of window 3 after the run: the scales of h. -/
theorem final3 (c : Dev nD) : (dats m 0 c).arrAt 3 cfg0.N = Result.hScales (V m c main_v0) (V m c main_arg1) (V m c main_v1) := by
  refine (dats m 0 c).arrAt_eq_of_covers 3 _ (by decide +kernel) fun t _ y => ?_
  have he : ((View.whole main_v2_0).slice (win0_3.rect t)).emb y = y := by
    blk_ext [idx t]
  blk_simp
  rw [after0_3]
  frame_out
  rw [he, iblk0, iblk1, iblk2, pay12_eq, pay13_eq]
  refine (hScale_at _ _ _ _ _ y).trans ?_
  exact congrArg scale (hMax_eq _ _ _ _)

/-- The array of window 4 after the run: the codes of h. -/
theorem final4 (c : Dev nD) : (dats m 0 c).arrAt 4 cfg0.N = Result.hCodes (V m c main_v0) (V m c main_arg1) (V m c main_v1) := by
  refine (dats m 0 c).arrAt_eq_of_covers 4 _ (by decide +kernel) fun t _ y => ?_
  have he : ((View.whole main_v2_1).slice (win0_4.rect t)).emb y = y := by
    blk_ext [idx t]
  blk_simp
  rw [after0_4]
  frame_out
  rw [he, iblk0, iblk1, iblk2, pay12_eq, pay13_eq]
  refine (hCodes_at _ _ _ _ _ y).trans ?_
  rw [eq_ix2 y]
  exact congrArg₂ (fun a b => code a (inv b)) (hTerm_at _ _ _ _ _) (hMax_eq _ _ _ _)

/-- The array of window 5 after the run: the codes of x. -/
theorem final5 (c : Dev nD) : (dats m 0 c).arrAt 5 cfg0.N = Result.xCodes (V m c main_v0) := by
  refine (dats m 0 c).arrAt_eq_of_covers 5 _ (by decide +kernel) fun t _ y => ?_
  have he : ((View.whole main_v2_2).slice (win0_5.rect t)).emb y = y := by
    blk_ext [idx t]
  blk_simp
  rw [after0_5]
  frame_out
  rw [he, iblk0, pay13_eq]
  refine (codes_at _ y).trans ?_
  rw [eq_ix2 y]
  rfl

/-- The array of window 6 after the run: the scales of x. -/
theorem final6 (c : Dev nD) : (dats m 0 c).arrAt 6 cfg0.N = Result.xScales (V m c main_v0) := by
  refine (dats m 0 c).arrAt_eq_of_covers 6 _ (by decide +kernel) fun t _ y => ?_
  have he : ((View.whole main_v2_3).slice (win0_6.rect t)).emb y = y := by
    blk_ext [idx t]
  blk_simp
  rw [after0_6]
  frame_out
  rw [he, iblk0, pay12_eq]
  exact pay5_at _ y

/-- The body's x is the argument, its two leading axes made one. -/
theorem V_v0 (c : Dev nD) :
    V m c main_v0 = shapeCast S12288x3584 (m ((c : Thread nD τ).loc main_arg0)) shapeCasts_S3x4096x3584_S12288x3584 := by
  show StableHlo.after hostOps0 (fun b => m (c, b)) (Proc.devRef .tc main_v0) = _
  simp only [hostOps0, StableHlo.after_cons, StableHlo.after_nil]
  rw [StableHlo.reshape_result_ne (h := by decide), StableHlo.reshape_result']
  rfl

/-- The body's weight scales are the argument, as a row. -/
theorem V_v1 (c : Dev nD) : V m c main_v1 = shapeCast S1x18944 (m ((c : Thread nD τ).loc main_arg2)) shapeCasts_S18944_S1x18944 := by
  show StableHlo.after hostOps0 (fun b => m (c, b)) (Proc.devRef .tc main_v1) = _
  simp only [hostOps0, StableHlo.after_cons, StableHlo.after_nil]
  rw [StableHlo.reshape_result', StableHlo.reshape_result_ne (h := by decide)]
  rfl

/-- A run of the reference leaves the four results and its arguments as they were. -/
theorem run : θ_run defs (onTc (τ := τ) (main (F := Ideal))) ⟨m, fun _ => 0, ρ⟩ fun r => ∀ c : Dev nD,
      r.2.mem ((c : Thread nD τ).loc main_v2_0) = Result.hScales (V m c main_v0) (V m c main_arg1) (V m c main_v1)
      ∧ r.2.mem ((c : Thread nD τ).loc main_v2_1) = Result.hCodes (V m c main_v0) (V m c main_arg1) (V m c main_v1)
      ∧ r.2.mem ((c : Thread nD τ).loc main_v2_2) = Result.xCodes (V m c main_v0)
      ∧ r.2.mem ((c : Thread nD τ).loc main_v2_3) = Result.xScales (V m c main_v0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Value

end
-- ==== Proof.lean ====
/-
The proof of every claim: the frames of the kernel at both readings and of the reference, the
idealization, and the equality of the kernel's four results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run.KernelFrame
public import proofs.«01_k».proof.Proof.Value.KernelRun
public import proofs.«01_k».proof.Proof.Value.ReferenceRun
public import Idealize.ShloMosaic.Adequacy
public import Idealize.ShloMosaic.Init

@[expose] public section

noncomputable section

namespace Cert.Proof

open Idealize.ShloMosaic Idealize.SL.Sem Cert.Kernel

/-- The kernel and the reference leave the same four results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Result.hScales (Cert.KernelIdeal.Gen.V m c Cert.KernelIdeal.main_v0) (Cert.KernelIdeal.Gen.V m c Cert.KernelIdeal.main_arg1) (Cert.KernelIdeal.Gen.V m c Cert.KernelIdeal.main_v1),
    fun c => Result.hCodes (Cert.KernelIdeal.Gen.V m c Cert.KernelIdeal.main_v0) (Cert.KernelIdeal.Gen.V m c Cert.KernelIdeal.main_arg1) (Cert.KernelIdeal.Gen.V m c Cert.KernelIdeal.main_v1),
    fun c => Result.xCodes (Cert.KernelIdeal.Gen.V m c Cert.KernelIdeal.main_v0),
    fun c => Result.xScales (Cert.KernelIdeal.Gen.V m c Cert.KernelIdeal.main_v0),
    Cert.KernelIdeal.Value.run m g, ?_⟩
  refine (θ_run _ _ _).mono (fun r h c => ?_) (Cert.ReferenceIdeal.Value.run m' g')
  obtain ⟨h0, h1, h2⟩ := hm c
  have e0 : (Cert.ReferenceIdeal.Gen.V m' c Cert.ReferenceIdeal.main_v0 : Vec Ideal ⟨2, ![12288, 3584]⟩ .bf16) = Cert.KernelIdeal.Gen.V m c Cert.KernelIdeal.main_v0 :=
    (Cert.ReferenceIdeal.Value.V_v0 m' c).trans ((congrArg (fun x => shapeCast _ x _) h0).trans (Cert.KernelIdeal.Value.V_v0 m c).symm)
  have e1 : (Cert.ReferenceIdeal.Gen.V m' c Cert.ReferenceIdeal.main_arg1 : Vec Ideal ⟨2, ![3584, 18944]⟩ .fp8e4m3) = Cert.KernelIdeal.Gen.V m c Cert.KernelIdeal.main_arg1 :=
    (Cert.ReferenceIdeal.Gen.V_main_arg1 m' c).trans (h1.trans (Cert.KernelIdeal.Gen.V_main_arg1 m c).symm)
  have e2 : (Cert.ReferenceIdeal.Gen.V m' c Cert.ReferenceIdeal.main_v1 : Vec Ideal ⟨2, ![1, 18944]⟩ .f32) = Cert.KernelIdeal.Gen.V m c Cert.KernelIdeal.main_v1 :=
    (Cert.ReferenceIdeal.Value.V_v1 m' c).trans ((congrArg (fun x => shapeCast _ x _) h2).trans (Cert.KernelIdeal.Value.V_v1 m c).symm)
  obtain ⟨r0, r1, r2, r3, k0, k1, k2⟩ := h c
  rw [e0, e1, e2] at r0 r1
  rw [e0] at r2 r3
  exact ⟨r0, r1, r2, r3, k0, k1, k2⟩

theorem claim : Cert.Claim := ⟨Cert.Kernel.Gen.facts, Cert.KernelIdeal.Gen.facts, Cert.ReferenceIdeal.Gen.facts,
  fun m g _ => Cert.Kernel.Run.frame m g,
  fun m g _ => Cert.KernelIdeal.Run.frame m g,
  fun m g _ => Cert.ReferenceIdeal.Gen.frame m g,
  trivial,
  algebraic⟩

end Cert.Proof

end
